-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S64x8192x64 : Shape := ⟨3, ![64, 8192, 64]⟩
abbrev S8192 : Shape := ⟨1, ![8192]⟩
abbrev S4097 : Shape := ⟨1, ![4097]⟩
abbrev S_ : Shape := ⟨0, ![]⟩
abbrev S8192x1 : Shape := ⟨2, ![8192, 1]⟩
abbrev S1x4097 : Shape := ⟨2, ![1, 4097]⟩
abbrev S8192x4097 : Shape := ⟨2, ![8192, 4097]⟩
abbrev S64x64x8192 : Shape := ⟨3, ![64, 64, 8192]⟩
abbrev S64x64x4097 : Shape := ⟨3, ![64, 64, 4097]⟩
abbrev S64x64x33 : Shape := ⟨3, ![64, 64, 33]⟩
abbrev S64x64x32 : Shape := ⟨3, ![64, 64, 32]⟩
abbrev S64x64x1 : Shape := ⟨3, ![64, 64, 1]⟩

class Facts : Prop where
  bcast_S8192_S8192x1_0 : S8192.BroadcastsInDim S8192x1 (![0] : Fin 1 → Fin S8192x1.rank)
  bcast_S4097_S1x4097_1 : S4097.BroadcastsInDim S1x4097 (![1] : Fin 1 → Fin S1x4097.rank)
  bcast_S8192x1_S8192x4097_0_1 : S8192x1.BroadcastsInDim S8192x4097 (![0, 1] : Fin 2 → Fin S8192x4097.rank)
  bcast_S1x4097_S8192x4097_0_1 : S1x4097.BroadcastsInDim S8192x4097 (![0, 1] : Fin 2 → Fin S8192x4097.rank)
  bcast_S_S8192x4097 : S_.BroadcastsInDim S8192x4097 (![] : Fin 0 → Fin S8192x4097.rank)
  transposes_S64x8192x64_S64x64x8192_0_2_1 : S64x8192x64.Transposes [0, 2, 1] S64x64x8192
  sliceFits_S64x64x4097_S64x64x33 : S64x64x4097.Slices (fun _ => 0) S64x64x33
  bcast_S_S64x8192x64 : S_.BroadcastsInDim S64x8192x64 (![] : Fin 0 → Fin S64x8192x64.rank)
  reducesTo_S64x8192x64_S_d0_1_2 : S64x8192x64.ReducesTo [0, 1, 2] S_
  h_S_ : 0 < S_.numel
  slices_S64x64x33_S64x64x32_0_0_0 : S64x64x33.Slices ![0, 0, 0] S64x64x32
  slices_S64x64x33_S64x64x32_0_0_1 : S64x64x33.Slices ![0, 0, 1] S64x64x32
  slices_S64x64x33_S64x64x1_0_0_32 : S64x64x33.Slices ![0, 0, 32] S64x64x1
  bcast_S_S64x64x1 : S_.BroadcastsInDim S64x64x1 (![] : Fin 0 → Fin S64x64x1.rank)
  bcast_S64x64x1_S64x64x32_0_1_2 : S64x64x1.BroadcastsInDim S64x64x32 (![0, 1, 2] : Fin 3 → Fin S64x64x32.rank)
  reducesTo_S64x64x32_S_d0_1_2 : S64x64x32.ReducesTo [0, 1, 2] S_
  dot_S64x64x8192_S8192x4097_S64x64x4097_2_0_01_1_n_n_wf : DotDims.WF S64x64x8192 S8192x4097 S64x64x4097 [2] [0] [0, 1] [1] [] []

variable [Facts]

def dot_S64x64x8192_S8192x4097_S64x64x4097_2_0_01_1_n_n : DotDims S64x64x8192 S8192x4097 S64x64x4097 where
  lhsContracting := [2]
  rhsContracting := [0]
  lhsNonContracting := [0, 1]
  rhsNonContracting := [1]
  lhsBatch := []
  rhsBatch := []
  wf := dot_S64x64x8192_S8192x4097_S64x64x4097_2_0_01_1_n_n_wf
def fn_part2 {F : FTy → Type} [FloatOps F] (main_v30 : IVec S_ 1) (main_v38 : IVec S64x64x32 1) : IVec S_ 1 :=
  let main_c_5 : IVec S_ 1 := constantI S_ 1 1#1
  let main_v39 : IVec S_ 1 := (fun x v => Host.reduce IntOp.andi x v reducesTo_S64x64x32_S_d0_1_2 h_S_) main_v38 main_c_5
  let main_v40 : IVec S_ 1 := andi main_v30 main_v39
  main_v40

def fn_part1 {F : FTy → Type} [FloatOps F] (main_arg0 : FVec F S64x8192x64 .f32) (main_v17 : FVec F S8192x4097 .f32) (main_v18 : FVec F S8192x4097 .f32) (main_v19 : FVec F S64x64x8192 .f32) : IVec S_ 1 :=
  let main_v20 : FVec F S64x64x4097 .f32 := (fun l r => Host.dotGeneral dot_S64x64x8192_S8192x4097_S64x64x4097_2_0_01_1_n_n (some .fp32) l r) main_v19 main_v17
  let main_v21 : FVec F S64x64x4097 .f32 := (fun l r => Host.dotGeneral dot_S64x64x8192_S8192x4097_S64x64x4097_2_0_01_1_n_n (some .fp32) l r) main_v19 main_v18
  let main_v22 : FVec F S64x64x4097 .f32 := Host.negf main_v21
  let main_v23 : FVec F S64x64x4097 .f32 := mulf main_v20 main_v20
  let main_v24 : FVec F S64x64x4097 .f32 := mulf main_v22 main_v22
  let main_v25 : FVec F S64x64x4097 .f32 := addf main_v23 main_v24
  let main_v26 : FVec F S64x64x4097 .f32 := Host.sqrt main_v25
  let main_values : FVec F S64x64x33 .f32 := (fun x => (Host.topK S64x64x33 2 (FloatOps.cmpfTotal .gt) x sliceFits_S64x64x4097_S64x64x33).1) main_v26
  let main_indices : IVec S64x64x33 32 := (fun x => (Host.topK S64x64x33 2 (FloatOps.cmpfTotal .gt) x sliceFits_S64x64x4097_S64x64x33).2) main_v26
  let main_v27 : FVec F S64x8192x64 .f32 := Host.absf main_arg0
  let main_cst_2 : FVec F S_ .f32 := constant S_ .f32 0x7F800000#32
  let main_v28 : FVec F S64x8192x64 .f32 := broadcastInDim S64x8192x64 ![] bcast_S_S64x8192x64 main_cst_2
  let main_v29 : IVec S64x8192x64 1 := cmpf .olt main_v27 main_v28
  let main_c_3 : IVec S_ 1 := constantI S_ 1 1#1
  let main_v30 : IVec S_ 1 := (fun x v => Host.reduce IntOp.andi x v reducesTo_S64x8192x64_S_d0_1_2 h_S_) main_v29 main_c_3
  let main_v31 : FVec F S64x64x32 .f32 := (extractStridedSlice S64x64x32 ![0, 0, 0] · slices_S64x64x33_S64x64x32_0_0_0) main_values
  let main_v32 : FVec F S64x64x32 .f32 := (extractStridedSlice S64x64x32 ![0, 0, 1] · slices_S64x64x33_S64x64x32_0_0_1) main_values
  let main_v33 : IVec S64x64x32 1 := cmpf .ogt main_v31 main_v32
  let main_v34 : FVec F S64x64x1 .f32 := (extractStridedSlice S64x64x1 ![0, 0, 32] · slices_S64x64x33_S64x64x1_0_0_32) main_values
  let main_cst_4 : FVec F S_ .f32 := constant S_ .f32 0x00000000#32
  let main_v35 : FVec F S64x64x1 .f32 := broadcastInDim S64x64x1 ![] bcast_S_S64x64x1 main_cst_4
  let main_v36 : IVec S64x64x1 1 := cmpf .oeq main_v34 main_v35
  let main_v37 : IVec S64x64x32 1 := broadcastInDim S64x64x32 ![0, 1, 2] bcast_S64x64x1_S64x64x32_0_1_2 main_v36
  let main_v38 : IVec S64x64x32 1 := ori main_v33 main_v37
  fn_part2 (F := F) main_v30 main_v38

def fn {F : FTy → Type} [FloatOps F] (main_arg0 : FVec F S64x8192x64 .f32) : IVec S_ 1 :=
  let main_v0 : IVec S8192 32 := iotaInDim S8192 32 0
  let main_v1 : IVec S4097 32 := iotaInDim S4097 32 0
  let main_cst : FVec F S_ .f32 := constant S_ .f32 0xBF800000#32
  let main_v2 : FVec F S_ .f32 := Host.acos main_cst
  let main_cst_0 : FVec F S_ .f32 := constant S_ .f32 0x40000000#32
  let main_v3 : FVec F S_ .f32 := mulf main_cst_0 main_v2
  let main_v4 : IVec S8192x1 32 := broadcastInDim S8192x1 ![0] bcast_S8192_S8192x1_0 main_v0
  let main_v5 : IVec S1x4097 32 := broadcastInDim S1x4097 ![1] bcast_S4097_S1x4097_1 main_v1
  let main_v6 : IVec S8192x4097 32 := broadcastInDim S8192x4097 ![0, 1] bcast_S8192x1_S8192x4097_0_1 main_v4
  let main_v7 : IVec S8192x4097 32 := broadcastInDim S8192x4097 ![0, 1] bcast_S1x4097_S8192x4097_0_1 main_v5
  let main_v8 : IVec S8192x4097 32 := muli main_v6 main_v7
  let main_c : IVec S_ 32 := constantI S_ 32 8192#32
  let main_v9 : IVec S8192x4097 32 := broadcastInDim S8192x4097 ![] bcast_S_S8192x4097 main_c
  let main_v10 : IVec S8192x4097 32 := Host.remsi main_v8 main_v9
  let main_v11 : FVec F S8192x4097 .f32 := sitofp .f32 main_v10
  let main_cst_1 : FVec F S_ .f32 := constant S_ .f32 0x46000000#32
  let main_v12 : FVec F S8192x4097 .f32 := broadcastInDim S8192x4097 ![] bcast_S_S8192x4097 main_cst_1
  let main_v13 : FVec F S8192x4097 .f32 := Host.divf main_v11 main_v12
  let main_v14 : FVec F S_ .f32 := id main_v3
  let main_v15 : FVec F S8192x4097 .f32 := broadcastInDim S8192x4097 ![] bcast_S_S8192x4097 main_v14
  let main_v16 : FVec F S8192x4097 .f32 := mulf main_v15 main_v13
  let main_v17 : FVec F S8192x4097 .f32 := Host.cos main_v16
  let main_v18 : FVec F S8192x4097 .f32 := Host.sin main_v16
  let main_v19 : FVec F S64x64x8192 .f32 := (transpose S64x64x8192 [0, 2, 1] · transposes_S64x8192x64_S64x64x8192_0_2_1) main_arg0
  fn_part1 (F := F) main_arg0 main_v17 main_v18 main_v19
-- ==== Kernel.lean ====
abbrev S64x8192x64 : Shape := ⟨3, ![64, 8192, 64]⟩
abbrev S1x64x128 : Shape := ⟨3, ![1, 64, 128]⟩
abbrev S64x64x8192 : Shape := ⟨3, ![64, 64, 8192]⟩
abbrev S64x64x64x128 : Shape := ⟨4, ![64, 64, 64, 128]⟩
abbrev S64x64x128x64 : Shape := ⟨4, ![64, 64, 128, 64]⟩
abbrev S64 : Shape := ⟨1, ![64]⟩
abbrev S128 : Shape := ⟨1, ![128]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128x1 : Shape := ⟨2, ![128, 1]⟩
abbrev S1x128 : Shape := ⟨2, ![1, 128]⟩
abbrev S128x128 : Shape := ⟨2, ![128, 128]⟩
abbrev S128x64 : Shape := ⟨2, ![128, 64]⟩
abbrev S1x128x64 : Shape := ⟨3, ![1, 128, 64]⟩
abbrev S1x64x128x64 : Shape := ⟨4, ![1, 64, 128, 64]⟩
abbrev S64x128x64 : Shape := ⟨3, ![64, 128, 64]⟩
abbrev S8192x64 : Shape := ⟨2, ![8192, 64]⟩
abbrev S64x64x128 : Shape := ⟨3, ![64, 64, 128]⟩
abbrev S4096x128 : Shape := ⟨2, ![4096, 128]⟩
abbrev S64x64x1 : Shape := ⟨3, ![64, 64, 1]⟩
abbrev S64x1x1 : Shape := ⟨3, ![64, 1, 1]⟩

abbrev nBuf : Space → Nat
  | .hbm => 122
  | .vmem => 15
  | .smem => 0
  | _ => 0

abbrev bufTy : (tb : Table) → Fin (tcTables nBuf tb) → BufTy
  | .hbm, ⟨0, _⟩ => ⟨S64x8192x64, .f32⟩
  | .hbm, ⟨1, _⟩ => ⟨S1x64x128, .f32⟩
  | .hbm, ⟨2, _⟩ => ⟨S64x64x8192, .f32⟩
  | .hbm, ⟨3, _⟩ => ⟨S64x64x64x128, .f32⟩
  | .hbm, ⟨4, _⟩ => ⟨S64x64x128x64, .f32⟩
  | .hbm, ⟨5, _⟩ => ⟨S64, .i32⟩
  | .hbm, ⟨6, _⟩ => ⟨S128, .i32⟩
  | .hbm, ⟨7, _⟩ => ⟨S128, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64x1, .i32⟩
  | .hbm, ⟨13, _⟩ => ⟨S1x64, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64x1, .i32⟩
  | .hbm, ⟨33, _⟩ => ⟨S1x64, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S128x1, .i32⟩
  | .hbm, ⟨53, _⟩ => ⟨S1x128, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .f32⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S128x1, .i32⟩
  | .hbm, ⟨73, _⟩ => ⟨S1x128, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .f32⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S128x1, .i32⟩
  | .hbm, ⟨93, _⟩ => ⟨S1x64, .i32⟩
  | .hbm, ⟨94, _⟩ => ⟨S128x64, .i32⟩
  | .hbm, ⟨95, _⟩ => ⟨S128x64, .i32⟩
  | .hbm, ⟨96, _⟩ => ⟨S128x64, .i32⟩
  | .hbm, ⟨97, _⟩ => ⟨S_, .i32⟩
  | .hbm, ⟨98, _⟩ => ⟨S128x64, .i32⟩
  | .hbm, ⟨99, _⟩ => ⟨S128x64, .i32⟩
  | .hbm, ⟨100, _⟩ => ⟨S128x64, .f32⟩
  | .hbm, ⟨101, _⟩ => ⟨S_, .f32⟩
  | .hbm, ⟨102, _⟩ => ⟨S128x64, .f32⟩
  | .hbm, ⟨103, _⟩ => ⟨S128x64, .f32⟩
  | .hbm, ⟨104, _⟩ => ⟨S_, .f32⟩
  | .hbm, ⟨105, _⟩ => ⟨S128x64, .f32⟩
  | .hbm, ⟨106, _⟩ => ⟨S128x64, .f32⟩
  | .hbm, ⟨107, _⟩ => ⟨S128x64, .f32⟩
  | .hbm, ⟨108, _⟩ => ⟨S1x128x64, .f32⟩
  | .hbm, ⟨109, _⟩ => ⟨S128x64, .f32⟩
  | .hbm, ⟨110, _⟩ => ⟨S1x128x64, .f32⟩
  | .hbm, ⟨111, _⟩ => ⟨S1x64x128, .f32⟩
  | .hbm, ⟨112, _⟩ => ⟨S1x64x128, .f32⟩
  | .hbm, ⟨113, _⟩ => ⟨S_, .f32⟩
  | .hbm, ⟨114, _⟩ => ⟨S64x64, .f32⟩
  | .hbm, ⟨115, _⟩ => ⟨S64x64, .f32⟩
  | .hbm, ⟨116, _⟩ => ⟨S_, .f32⟩
  | .hbm, ⟨117, _⟩ => ⟨S64x64, .f32⟩
  | .hbm, ⟨118, _⟩ => ⟨S64x64, .f32⟩
  | .hbm, ⟨119, _⟩ => ⟨S64x64x128x64, .f32⟩
  | .hbm, ⟨120, _⟩ => ⟨S64x64x128x64, .f32⟩
  | .hbm, ⟨121, _⟩ => ⟨S64x8192x64, .f32⟩
  | .local _ .vmem, ⟨0, _⟩ => ⟨S1x64x128x64, .f32⟩
  | .local _ .vmem, ⟨1, _⟩ => ⟨S1x64x128x64, .f32⟩
  | .local _ .vmem, ⟨2, _⟩ => ⟨S64x64, .f32⟩
  | .local _ .vmem, ⟨3, _⟩ => ⟨S64x64, .f32⟩
  | .local _ .vmem, ⟨4, _⟩ => ⟨S128x128, .f32⟩
  | .local _ .vmem, ⟨5, _⟩ => ⟨S128x128, .f32⟩
  | .local _ .vmem, ⟨6, _⟩ => ⟨S1x128x64, .f32⟩
  | .local _ .vmem, ⟨7, _⟩ => ⟨S1x128x64, .f32⟩
  | .local _ .vmem, ⟨8, _⟩ => ⟨S1x64x128, .f32⟩
  | .local _ .vmem, ⟨9, _⟩ => ⟨S1x64x128, .f32⟩
  | .local _ .vmem, ⟨10, _⟩ => ⟨S64x64, .f32⟩
  | .local _ .vmem, ⟨11, _⟩ => ⟨S64x64, .f32⟩
  | .local _ .vmem, ⟨12, _⟩ => ⟨S1x64x128, .f32⟩
  | .local _ .vmem, ⟨13, _⟩ => ⟨S1x64x128x64, .f32⟩
  | .local _ .vmem, ⟨14, _⟩ => ⟨S1x64x128x64, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_cst_0 : Ref sig .tc := ⟨.hbm, 8, rfl⟩
abbrev main_call0_v6 : Ref sig .tc := ⟨.hbm, 9, rfl⟩
abbrev main_call0_cst_1 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_c : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_v18 : Ref sig .tc := ⟨.hbm, 23, rfl⟩
abbrev main_call0_cst_2 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_cst_3 : Ref sig .tc := ⟨.hbm, 28, rfl⟩
abbrev main_call0_v22 : Ref sig .tc := ⟨.hbm, 29, rfl⟩
abbrev main_call0_cst_4 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_c_5 : Ref sig .tc := ⟨.hbm, 37, rfl⟩
abbrev main_call0_v29 : Ref sig .tc := ⟨.hbm, 38, rfl⟩
abbrev main_call0_v30 : Ref sig .tc := ⟨.hbm, 39, rfl⟩
abbrev main_call0_v31 : Ref sig .tc := ⟨.hbm, 40, rfl⟩
abbrev main_call0_v32 : Ref sig .tc := ⟨.hbm, 41, rfl⟩
abbrev main_call0_v33 : Ref sig .tc := ⟨.hbm, 42, rfl⟩
abbrev main_call0_v34 : Ref sig .tc := ⟨.hbm, 43, rfl⟩
abbrev main_call0_cst_6 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_cst_7 : Ref sig .tc := ⟨.hbm, 48, rfl⟩
abbrev main_call0_v38 : Ref sig .tc := ⟨.hbm, 49, rfl⟩
abbrev main_call0_cst_8 : Ref sig .tc := ⟨.hbm, 50, rfl⟩
abbrev main_call0_v39 : Ref sig .tc := ⟨.hbm, 51, rfl⟩
abbrev main_call0_v40 : Ref sig .tc := ⟨.hbm, 52, rfl⟩
abbrev main_call0_v41 : Ref sig .tc := ⟨.hbm, 53, rfl⟩
abbrev main_call0_v42 : Ref sig .tc := ⟨.hbm, 54, rfl⟩
abbrev main_call0_v43 : Ref sig .tc := ⟨.hbm, 55, rfl⟩
abbrev main_call0_v44 : Ref sig .tc := ⟨.hbm, 56, rfl⟩
abbrev main_call0_c_9 : Ref sig .tc := ⟨.hbm, 57, rfl⟩
abbrev main_call0_v45 : Ref sig .tc := ⟨.hbm, 58, rfl⟩
abbrev main_call0_v46 : Ref sig .tc := ⟨.hbm, 59, rfl⟩
abbrev main_call0_v47 : Ref sig .tc := ⟨.hbm, 60, rfl⟩
abbrev main_call0_v48 : Ref sig .tc := ⟨.hbm, 61, rfl⟩
abbrev main_call0_v49 : Ref sig .tc := ⟨.hbm, 62, rfl⟩
abbrev main_call0_v50 : Ref sig .tc := ⟨.hbm, 63, rfl⟩
abbrev main_call0_cst_10 : Ref sig .tc := ⟨.hbm, 64, rfl⟩
abbrev main_call0_v51 : Ref sig .tc := ⟨.hbm, 65, rfl⟩
abbrev main_call0_v52 : Ref sig .tc := ⟨.hbm, 66, rfl⟩
abbrev main_call0_v53 : Ref sig .tc := ⟨.hbm, 67, rfl⟩
abbrev main_call0_cst_11 : Ref sig .tc := ⟨.hbm, 68, rfl⟩
abbrev main_call0_v54 : Ref sig .tc := ⟨.hbm, 69, rfl⟩
abbrev main_call0_cst_12 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_v60 : Ref sig .tc := ⟨.hbm, 76, rfl⟩
abbrev main_call0_c_13 : Ref sig .tc := ⟨.hbm, 77, rfl⟩
abbrev main_call0_v61 : Ref sig .tc := ⟨.hbm, 78, rfl⟩
abbrev main_call0_v62 : Ref sig .tc := ⟨.hbm, 79, rfl⟩
abbrev main_call0_v63 : Ref sig .tc := ⟨.hbm, 80, rfl⟩
abbrev main_call0_v64 : Ref sig .tc := ⟨.hbm, 81, rfl⟩
abbrev main_call0_v65 : Ref sig .tc := ⟨.hbm, 82, rfl⟩
abbrev main_call0_v66 : Ref sig .tc := ⟨.hbm, 83, rfl⟩
abbrev main_call0_cst_14 : Ref sig .tc := ⟨.hbm, 84, rfl⟩
abbrev main_call0_v67 : Ref sig .tc := ⟨.hbm, 85, rfl⟩
abbrev main_call0_v68 : Ref sig .tc := ⟨.hbm, 86, rfl⟩
abbrev main_call0_v69 : Ref sig .tc := ⟨.hbm, 87, rfl⟩
abbrev main_call0_cst_15 : Ref sig .tc := ⟨.hbm, 88, rfl⟩
abbrev main_call0_v70 : Ref sig .tc := ⟨.hbm, 89, rfl⟩
abbrev main_call0_cst_16 : Ref sig .tc := ⟨.hbm, 90, rfl⟩
abbrev main_call0_v71 : Ref sig .tc := ⟨.hbm, 91, rfl⟩
abbrev main_call0_v72 : Ref sig .tc := ⟨.hbm, 92, rfl⟩
abbrev main_call0_v73 : Ref sig .tc := ⟨.hbm, 93, rfl⟩
abbrev main_call0_v74 : Ref sig .tc := ⟨.hbm, 94, rfl⟩
abbrev main_call0_v75 : Ref sig .tc := ⟨.hbm, 95, rfl⟩
abbrev main_call0_v76 : Ref sig .tc := ⟨.hbm, 96, rfl⟩
abbrev main_call0_c_17 : Ref sig .tc := ⟨.hbm, 97, rfl⟩
abbrev main_call0_v77 : Ref sig .tc := ⟨.hbm, 98, rfl⟩
abbrev main_call0_v78 : Ref sig .tc := ⟨.hbm, 99, rfl⟩
abbrev main_call0_v79 : Ref sig .tc := ⟨.hbm, 100, rfl⟩
abbrev main_call0_v80 : Ref sig .tc := ⟨.hbm, 101, rfl⟩
abbrev main_call0_v81 : Ref sig .tc := ⟨.hbm, 102, rfl⟩
abbrev main_call0_v82 : Ref sig .tc := ⟨.hbm, 103, rfl⟩
abbrev main_call0_cst_18 : Ref sig .tc := ⟨.hbm, 104, rfl⟩
abbrev main_call0_v83 : Ref sig .tc := ⟨.hbm, 105, rfl⟩
abbrev main_call0_v84 : Ref sig .tc := ⟨.hbm, 106, rfl⟩
abbrev main_call0_v85 : Ref sig .tc := ⟨.hbm, 107, rfl⟩
abbrev main_call0_v86 : Ref sig .tc := ⟨.hbm, 108, rfl⟩
abbrev main_call0_v87 : Ref sig .tc := ⟨.hbm, 109, rfl⟩
abbrev main_call0_v88 : Ref sig .tc := ⟨.hbm, 110, rfl⟩
abbrev main_call0_v89 : Ref sig .tc := ⟨.hbm, 111, rfl⟩
abbrev main_call0_v90 : Ref sig .tc := ⟨.hbm, 112, rfl⟩
abbrev main_call0_cst_19 : Ref sig .tc := ⟨.hbm, 113, rfl⟩
abbrev main_call0_v91 : Ref sig .tc := ⟨.hbm, 114, rfl⟩
abbrev main_call0_v92 : Ref sig .tc := ⟨.hbm, 115, rfl⟩
abbrev main_call0_cst_20 : Ref sig .tc := ⟨.hbm, 116, rfl⟩
abbrev main_call0_v93 : Ref sig .tc := ⟨.hbm, 117, rfl⟩
abbrev main_call0_v94 : Ref sig .tc := ⟨.hbm, 118, rfl⟩
abbrev main_call0_v95 : Ref sig .tc := ⟨.hbm, 119, rfl⟩
abbrev main_call0_v96 : Ref sig .tc := ⟨.hbm, 120, rfl⟩
abbrev main_v0 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x64x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S64x8192x64 : Shape := ⟨3, ![64, 8192, 64]⟩
abbrev S8192 : Shape := ⟨1, ![8192]⟩
abbrev S4097 : Shape := ⟨1, ![4097]⟩
abbrev S_ : Shape := ⟨0, ![]⟩
abbrev S8192x1 : Shape := ⟨2, ![8192, 1]⟩
abbrev S1x4097 : Shape := ⟨2, ![1, 4097]⟩
abbrev S8192x4097 : Shape := ⟨2, ![8192, 4097]⟩
abbrev S64x64x8192 : Shape := ⟨3, ![64, 64, 8192]⟩
abbrev S64x64x4097 : Shape := ⟨3, ![64, 64, 4097]⟩
abbrev S64x64x32 : Shape := ⟨3, ![64, 64, 32]⟩
abbrev S64 : Shape := ⟨1, ![64]⟩
abbrev S64x1x1 : Shape := ⟨3, ![64, 1, 1]⟩
abbrev S1x64x1 : Shape := ⟨3, ![1, 64, 1]⟩
abbrev S64x64x32x1 : Shape := ⟨4, ![64, 64, 32, 1]⟩
abbrev S64x64x32x3 : Shape := ⟨4, ![64, 64, 32, 3]⟩
abbrev S1x1x4097 : Shape := ⟨3, ![1, 1, 4097]⟩

abbrev nBuf : Space → Nat
  | .hbm => 106
  | .vmem => 0
  | .smem => 0
  | _ => 0

abbrev bufTy : (tb : Table) → Fin (tcTables nBuf tb) → BufTy
  | .hbm, ⟨0, _⟩ => ⟨S64x8192x64, .f32⟩
  | .hbm, ⟨1, _⟩ => ⟨S8192, .i32⟩
  | .hbm, ⟨2, _⟩ => ⟨S4097, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1, .i32⟩
  | .hbm, ⟨8, _⟩ => ⟨S1x4097, .i32⟩
  | .hbm, ⟨9, _⟩ => ⟨S8192x4097, .i32⟩
  | .hbm, ⟨10, _⟩ => ⟨S8192x4097, .i32⟩
  | .hbm, ⟨11, _⟩ => ⟨S8192x4097, .i32⟩
  | .hbm, ⟨12, _⟩ => ⟨S_, .i32⟩
  | .hbm, ⟨13, _⟩ => ⟨S8192x4097, .i32⟩
  | .hbm, ⟨14, _⟩ => ⟨S8192x4097, .i32⟩
  | .hbm, ⟨15, _⟩ => ⟨S8192x4097, .f32⟩
  | .hbm, ⟨16, _⟩ => ⟨S_, .f32⟩
  | .hbm, ⟨17, _⟩ => ⟨S8192x4097, .f32⟩
  | .hbm, ⟨18, _⟩ => ⟨S8192x4097, .f32⟩
  | .hbm, ⟨19, _⟩ => ⟨S_, .f32⟩
  | .hbm, ⟨20, _⟩ => ⟨S8192x4097, .f32⟩
  | .hbm, ⟨21, _⟩ => ⟨S8192x4097, .f32⟩
  | .hbm, ⟨22, _⟩ => ⟨S8192x4097, .f32⟩
  | .hbm, ⟨23, _⟩ => ⟨S8192x4097, .f32⟩
  | .hbm, ⟨24, _⟩ => ⟨S64x64x8192, .f32⟩
  | .hbm, ⟨25, _⟩ => ⟨S64x64x4097, .f32⟩
  | .hbm, ⟨26, _⟩ => ⟨S64x64x4097, .f32⟩
  | .hbm, ⟨27, _⟩ => ⟨S64x64x4097, .f32⟩
  | .hbm, ⟨28, _⟩ => ⟨S64x64x4097, .f32⟩
  | .hbm, ⟨29, _⟩ => ⟨S64x64x4097, .f32⟩
  | .hbm, ⟨30, _⟩ => ⟨S64x64x4097, .f32⟩
  | .hbm, ⟨31, _⟩ => ⟨S64x64x4097, .f32⟩
  | .hbm, ⟨32, _⟩ => ⟨S64x64x32, .f32⟩
  | .hbm, ⟨33, _⟩ => ⟨S64x64x32, .i32⟩
  | .hbm, ⟨34, _⟩ => ⟨S_, .i1⟩
  | .hbm, ⟨35, _⟩ => ⟨S64x64x4097, .i1⟩
  | .hbm, ⟨36, _⟩ => ⟨S64, .i32⟩
  | .hbm, ⟨37, _⟩ => ⟨S64x1x1, .i32⟩
  | .hbm, ⟨38, _⟩ => ⟨S64, .i32⟩
  | .hbm, ⟨39, _⟩ => ⟨S1x64x1, .i32⟩
  | .hbm, ⟨40, _⟩ => ⟨S_, .i32⟩
  | .hbm, ⟨41, _⟩ => ⟨S64x1x1, .i32⟩
  | .hbm, ⟨42, _⟩ => ⟨S64x1x1, .i1⟩
  | .hbm, ⟨43, _⟩ => ⟨S_, .i32⟩
  | .hbm, ⟨44, _⟩ => ⟨S64x1x1, .i32⟩
  | .hbm, ⟨45, _⟩ => ⟨S64x1x1, .i32⟩
  | .hbm, ⟨46, _⟩ => ⟨S64x1x1, .i32⟩
  | .hbm, ⟨47, _⟩ => ⟨S_, .i32⟩
  | .hbm, ⟨48, _⟩ => ⟨S1x64x1, .i32⟩
  | .hbm, ⟨49, _⟩ => ⟨S1x64x1, .i1⟩
  | .hbm, ⟨50, _⟩ => ⟨S_, .i32⟩
  | .hbm, ⟨51, _⟩ => ⟨S1x64x1, .i32⟩
  | .hbm, ⟨52, _⟩ => ⟨S1x64x1, .i32⟩
  | .hbm, ⟨53, _⟩ => ⟨S1x64x1, .i32⟩
  | .hbm, ⟨54, _⟩ => ⟨S_, .i32⟩
  | .hbm, ⟨55, _⟩ => ⟨S64x64x32, .i32⟩
  | .hbm, ⟨56, _⟩ => ⟨S64x64x32, .i1⟩
  | .hbm, ⟨57, _⟩ => ⟨S_, .i32⟩
  | .hbm, ⟨58, _⟩ => ⟨S64x64x32, .i32⟩
  | .hbm, ⟨59, _⟩ => ⟨S64x64x32, .i32⟩
  | .hbm, ⟨60, _⟩ => ⟨S64x64x32, .i32⟩
  | .hbm, ⟨61, _⟩ => ⟨S64x64x32, .i32⟩
  | .hbm, ⟨62, _⟩ => ⟨S64x64x32, .i32⟩
  | .hbm, ⟨63, _⟩ => ⟨S64x64x32x1, .i32⟩
  | .hbm, ⟨64, _⟩ => ⟨S64x64x32x1, .i32⟩
  | .hbm, ⟨65, _⟩ => ⟨S64x64x32x1, .i32⟩
  | .hbm, ⟨66, _⟩ => ⟨S64x64x32x3, .i32⟩
  | .hbm, ⟨67, _⟩ => ⟨S_, .i1⟩
  | .hbm, ⟨68, _⟩ => ⟨S64x64x32, .i1⟩
  | .hbm, ⟨69, _⟩ => ⟨S64x64x4097, .i1⟩
  | .hbm, ⟨70, _⟩ => ⟨S_, .f32⟩
  | .hbm, ⟨71, _⟩ => ⟨S_, .f32⟩
  | .hbm, ⟨72, _⟩ => ⟨S64x64x4097, .f32⟩
  | .hbm, ⟨73, _⟩ => ⟨S64x64x4097, .f32⟩
  | .hbm, ⟨74, _⟩ => ⟨S_, .f32⟩
  | .hbm, ⟨75, _⟩ => ⟨S_, .f32⟩
  | .hbm, ⟨76, _⟩ => ⟨S64x64x4097, .f32⟩
  | .hbm, ⟨77, _⟩ => ⟨S64x64x4097, .f32⟩
  | .hbm, ⟨78, _⟩ => ⟨S4097, .i32⟩
  | .hbm, ⟨79, _⟩ => ⟨S_, .i32⟩
  | .hbm, ⟨80, _⟩ => ⟨S4097, .i32⟩
  | .hbm, ⟨81, _⟩ => ⟨S4097, .i1⟩
  | .hbm, ⟨82, _⟩ => ⟨S_, .i32⟩
  | .hbm, ⟨83, _⟩ => ⟨S4097, .i32⟩
  | .hbm, ⟨84, _⟩ => ⟨S4097, .i1⟩
  | .hbm, ⟨85, _⟩ => ⟨S4097, .i1⟩
  | .hbm, ⟨86, _⟩ => ⟨S_, .f32⟩
  | .hbm, ⟨87, _⟩ => ⟨S_, .f32⟩
  | .hbm, ⟨88, _⟩ => ⟨S4097, .f32⟩
  | .hbm, ⟨89, _⟩ => ⟨S4097, .f32⟩
  | .hbm, ⟨90, _⟩ => ⟨S4097, .f32⟩
  | .hbm, ⟨91, _⟩ => ⟨S4097, .f32⟩
  | .hbm, ⟨92, _⟩ => ⟨S1x1x4097, .f32⟩
  | .hbm, ⟨93, _⟩ => ⟨S64x64x4097, .f32⟩
  | .hbm, ⟨94, _⟩ => ⟨S64x64x4097, .f32⟩
  | .hbm, ⟨95, _⟩ => ⟨S64x64x8192, .f32⟩
  | .hbm, ⟨96, _⟩ => ⟨S4097, .f32⟩
  | .hbm, ⟨97, _⟩ => ⟨S1x1x4097, .f32⟩
  | .hbm, ⟨98, _⟩ => ⟨S64x64x4097, .f32⟩
  | .hbm, ⟨99, _⟩ => ⟨S64x64x4097, .f32⟩
  | .hbm, ⟨100, _⟩ => ⟨S64x64x8192, .f32⟩
  | .hbm, ⟨101, _⟩ => ⟨S64x64x8192, .f32⟩
  | .hbm, ⟨102, _⟩ => ⟨S_, .f32⟩
  | .hbm, ⟨103, _⟩ => ⟨S64x64x8192, .f32⟩
  | .hbm, ⟨104, _⟩ => ⟨S64x64x8192, .f32⟩
  | .hbm, ⟨105, _⟩ => ⟨S64x8192x64, .f32⟩
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_values : Ref sig .tc := ⟨.hbm, 32, rfl⟩
abbrev main_indices : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_call0_v0 : Ref sig .tc := ⟨.hbm, 71, rfl⟩
abbrev main_call0_v1 : Ref sig .tc := ⟨.hbm, 72, rfl⟩
abbrev main_v55 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_cst_15 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Proof.Dft.lean ====
/- The mathematics of the 64 × 128 factorisation of a discrete Fourier transform of length 8192, over the real numbers:
   the three steps of the forward transform and the three of the inverse one are the plain sums over 8192 points. -/
module

public import Mathlib.Analysis.SpecialFunctions.Trigonometric.Basic
public import Mathlib.Algebra.BigOperators.Fin
public import Mathlib.Algebra.BigOperators.Field
public import Mathlib.Algebra.BigOperators.Ring.Finset
public import Mathlib.Data.EReal.Basic

@[expose] public section

noncomputable section

namespace Cert.Fourier

open scoped BigOperators

/-- The cosine of `k` steps around a circle of `N` steps, the steps taken modulo `N` first. -/
def cosN (N k : ℕ) : ℝ := Real.cos (2 * Real.pi * ((k % N : ℕ) : ℝ) / (N : ℝ))
/-- The sine of `k` steps around a circle of `N` steps, the steps taken modulo `N` first. -/
def sinN (N k : ℕ) : ℝ := Real.sin (2 * Real.pi * ((k % N : ℕ) : ℝ) / (N : ℝ))

/-- Whole turns may be taken off: `2 π (k mod N) / N` and `2 π k / N` are the same angle up to a multiple of `2 π`. -/
theorem angle_mod {N : ℕ} (hN : 0 < N) (k : ℕ) :
    2 * Real.pi * (k : ℝ) / (N : ℝ) = 2 * Real.pi * ((k % N : ℕ) : ℝ) / (N : ℝ) + ((k / N : ℕ) : ℝ) * (2 * Real.pi) := by
  have h : (k : ℝ) = (N : ℝ) * ((k / N : ℕ) : ℝ) + ((k % N : ℕ) : ℝ) := by exact_mod_cast (Nat.div_add_mod k N).symm
  have hN' : (N : ℝ) ≠ 0 := by exact_mod_cast hN.ne'
  rw [h]; field_simp; ring

/-- Taking the steps modulo `N` does not change the cosine. -/
theorem cosN_eq {N : ℕ} (hN : 0 < N) (k : ℕ) : cosN N k = Real.cos (2 * Real.pi * (k : ℝ) / (N : ℝ)) := by
  rw [angle_mod hN, Real.cos_add_nat_mul_two_pi]; rfl

/-- Taking the steps modulo `N` does not change the sine. -/
theorem sinN_eq {N : ℕ} (hN : 0 < N) (k : ℕ) : sinN N k = Real.sin (2 * Real.pi * (k : ℝ) / (N : ℝ)) := by
  rw [angle_mod hN, Real.sin_add_nat_mul_two_pi]; rfl

/-- The three angles of the factorisation add up to the angle of the whole transform, up to whole turns. -/
theorem three_angles (t1 t2 f1 f2 : ℕ) :
    2 * Real.pi * ((t1 * f1 : ℕ) : ℝ) / ((64 : ℕ) : ℝ) + 2 * Real.pi * ((t2 * f1 : ℕ) : ℝ) / ((8192 : ℕ) : ℝ)
      + 2 * Real.pi * ((t2 * f2 : ℕ) : ℝ) / ((128 : ℕ) : ℝ) + ((t1 * f2 : ℕ) : ℝ) * (2 * Real.pi)
    = 2 * Real.pi * (((128 * t1 + t2) * (64 * f2 + f1) : ℕ) : ℝ) / ((8192 : ℕ) : ℝ) := by
  push_cast; ring

/-- The cosine of the 8192-point transform, split along the three stages of the factored transform. -/
theorem cos_three (t1 t2 f1 f2 : ℕ) :
    cosN 8192 ((128 * t1 + t2) * (64 * f2 + f1))
      = (cosN 64 (t1 * f1) * cosN 8192 (t2 * f1) - sinN 64 (t1 * f1) * sinN 8192 (t2 * f1)) * cosN 128 (t2 * f2)
        - (sinN 64 (t1 * f1) * cosN 8192 (t2 * f1) + cosN 64 (t1 * f1) * sinN 8192 (t2 * f1)) * sinN 128 (t2 * f2) := by
  rw [cosN_eq (by norm_num), ← three_angles, Real.cos_add_nat_mul_two_pi, Real.cos_add, Real.cos_add, Real.sin_add]
  simp only [cosN_eq (show 0 < 64 by norm_num), cosN_eq (show 0 < 8192 by norm_num), cosN_eq (show 0 < 128 by norm_num),
    sinN_eq (show 0 < 64 by norm_num), sinN_eq (show 0 < 8192 by norm_num), sinN_eq (show 0 < 128 by norm_num)]

/-- The sine of the 8192-point transform, split along the three stages of the factored transform. -/
theorem sin_three (t1 t2 f1 f2 : ℕ) :
    sinN 8192 ((128 * t1 + t2) * (64 * f2 + f1))
      = (sinN 64 (t1 * f1) * cosN 8192 (t2 * f1) + cosN 64 (t1 * f1) * sinN 8192 (t2 * f1)) * cosN 128 (t2 * f2)
        + (cosN 64 (t1 * f1) * cosN 8192 (t2 * f1) - sinN 64 (t1 * f1) * sinN 8192 (t2 * f1)) * sinN 128 (t2 * f2) := by
  rw [sinN_eq (by norm_num), ← three_angles, Real.sin_add_nat_mul_two_pi, Real.sin_add, Real.cos_add, Real.sin_add]
  simp only [cosN_eq (show 0 < 64 by norm_num), cosN_eq (show 0 < 8192 by norm_num), cosN_eq (show 0 < 128 by norm_num),
    sinN_eq (show 0 < 64 by norm_num), sinN_eq (show 0 < 8192 by norm_num), sinN_eq (show 0 < 128 by norm_num)]

/-! ## The forward transform, in the kernel's three steps -/

/-- Real part of the transforms of length 64. -/
def aRe (X : Fin 128 → Fin 64 → ℝ) (t2 : Fin 128) (f1 : Fin 64) : ℝ := ∑ t1 : Fin 64, X t2 t1 * cosN 64 (t1.val * f1.val)
/-- Imaginary part of the transforms of length 64. -/
def aIm (X : Fin 128 → Fin 64 → ℝ) (t2 : Fin 128) (f1 : Fin 64) : ℝ := 0 - ∑ t1 : Fin 64, X t2 t1 * sinN 64 (t1.val * f1.val)
/-- Real part after the twiddle. -/
def bRe (X : Fin 128 → Fin 64 → ℝ) (f1 : Fin 64) (t2 : Fin 128) : ℝ :=
  aRe X t2 f1 * cosN 8192 (t2.val * f1.val) + aIm X t2 f1 * sinN 8192 (t2.val * f1.val)
/-- Imaginary part after the twiddle. -/
def bIm (X : Fin 128 → Fin 64 → ℝ) (f1 : Fin 64) (t2 : Fin 128) : ℝ :=
  aIm X t2 f1 * cosN 8192 (t2.val * f1.val) - aRe X t2 f1 * sinN 8192 (t2.val * f1.val)
/-- Real part of the spectrum, at frequency `64 f2 + f1`. -/
def sRe (X : Fin 128 → Fin 64 → ℝ) (f1 : Fin 64) (f2 : Fin 128) : ℝ :=
  ∑ t2 : Fin 128, bRe X f1 t2 * cosN 128 (t2.val * f2.val) + ∑ t2 : Fin 128, bIm X f1 t2 * sinN 128 (t2.val * f2.val)
/-- Imaginary part of the spectrum, at frequency `64 f2 + f1`. -/
def sIm (X : Fin 128 → Fin 64 → ℝ) (f1 : Fin 64) (f2 : Fin 128) : ℝ :=
  ∑ t2 : Fin 128, bIm X f1 t2 * cosN 128 (t2.val * f2.val) - ∑ t2 : Fin 128, bRe X f1 t2 * sinN 128 (t2.val * f2.val)

/-- A sum over 8192 points as a double sum, the point being `128 a + b`. -/
theorem sum_points {M : Type*} [AddCommMonoid M] (g : ℕ → M) :
    ∑ n : Fin 8192, g n.val = ∑ b : Fin 128, ∑ a : Fin 64, g (128 * a.val + b.val) := by
  rw [← Equiv.sum_comp (finProdFinEquiv (m := 64) (n := 128)) (fun n : Fin (64 * 128) => g n.val), Fintype.sum_prod_type,
    Finset.sum_comm]
  refine Finset.sum_congr rfl fun b _ => Finset.sum_congr rfl fun a _ => ?_
  rw [finProdFinEquiv_apply_val, add_comm]

/-- A sum over 8192 frequencies as a double sum, the frequency being `64 b + a`. -/
theorem sum_freqs {M : Type*} [AddCommMonoid M] (g : ℕ → M) :
    ∑ n : Fin 8192, g n.val = ∑ a : Fin 64, ∑ b : Fin 128, g (64 * b.val + a.val) := by
  rw [← Equiv.sum_comp (finProdFinEquiv (m := 128) (n := 64)) (fun n : Fin (128 * 64) => g n.val), Fintype.sum_prod_type,
    Finset.sum_comm]
  refine Finset.sum_congr rfl fun b _ => Finset.sum_congr rfl fun a _ => ?_
  rw [finProdFinEquiv_apply_val, add_comm]

/-- The kernel's real part is the real part of the plain transform. -/
theorem sRe_eq (X : Fin 128 → Fin 64 → ℝ) (x : ℕ → ℝ) (hX : ∀ t2 t1, X t2 t1 = x (128 * t1.val + t2.val))
    (f1 : Fin 64) (f2 : Fin 128) :
    sRe X f1 f2 = ∑ n : Fin 8192, x n.val * cosN 8192 (n.val * (64 * f2.val + f1.val)) := by
  rw [sum_points (fun n => x n * cosN 8192 (n * (64 * f2.val + f1.val)))]
  unfold sRe
  rw [← Finset.sum_add_distrib]
  refine Finset.sum_congr rfl fun t2 _ => ?_
  unfold bRe bIm aRe aIm
  rw [zero_sub]
  simp only [cos_three, ← hX]
  simp only [mul_sub, mul_add, add_mul, sub_mul, neg_mul, Finset.sum_mul, Finset.sum_add_distrib, Finset.sum_sub_distrib]
  simp only [← mul_assoc]
  ring

/-- The kernel's imaginary part is the imaginary part of the plain transform. -/
theorem sIm_eq (X : Fin 128 → Fin 64 → ℝ) (x : ℕ → ℝ) (hX : ∀ t2 t1, X t2 t1 = x (128 * t1.val + t2.val))
    (f1 : Fin 64) (f2 : Fin 128) :
    sIm X f1 f2 = -∑ n : Fin 8192, x n.val * sinN 8192 (n.val * (64 * f2.val + f1.val)) := by
  rw [sum_points (fun n => x n * sinN 8192 (n * (64 * f2.val + f1.val)))]
  unfold sIm
  rw [← Finset.sum_sub_distrib, ← Finset.sum_neg_distrib]
  refine Finset.sum_congr rfl fun t2 _ => ?_
  unfold bRe bIm aRe aIm
  rw [zero_sub]
  simp only [sin_three, ← hX]
  simp only [mul_sub, mul_add, add_mul, sub_mul, neg_mul, Finset.sum_mul, Finset.sum_add_distrib, Finset.sum_sub_distrib]
  simp only [← mul_assoc]
  ring

/-! ## The inverse transform, in the kernel's three steps -/

/-- Real part of the inverse transforms of length 128. -/
def dRe (g h : Fin 64 → Fin 128 → ℝ) (f1 : Fin 64) (t2 : Fin 128) : ℝ :=
  ∑ f2 : Fin 128, g f1 f2 * cosN 128 (f2.val * t2.val) - ∑ f2 : Fin 128, h f1 f2 * sinN 128 (f2.val * t2.val)
/-- Imaginary part of the inverse transforms of length 128. -/
def dIm (g h : Fin 64 → Fin 128 → ℝ) (f1 : Fin 64) (t2 : Fin 128) : ℝ :=
  ∑ f2 : Fin 128, g f1 f2 * sinN 128 (f2.val * t2.val) + ∑ f2 : Fin 128, h f1 f2 * cosN 128 (f2.val * t2.val)
/-- Real part after the inverse twiddle. -/
def eRe (g h : Fin 64 → Fin 128 → ℝ) (t2 : Fin 128) (f1 : Fin 64) : ℝ :=
  dRe g h f1 t2 * cosN 8192 (t2.val * f1.val) - dIm g h f1 t2 * sinN 8192 (t2.val * f1.val)
/-- Imaginary part after the inverse twiddle. -/
def eIm (g h : Fin 64 → Fin 128 → ℝ) (t2 : Fin 128) (f1 : Fin 64) : ℝ :=
  dRe g h f1 t2 * sinN 8192 (t2.val * f1.val) + dIm g h f1 t2 * cosN 8192 (t2.val * f1.val)
/-- The real part of the inverse transform, at time `128 t1 + t2`. -/
def yRe (g h : Fin 64 → Fin 128 → ℝ) (t2 : Fin 128) (t1 : Fin 64) : ℝ :=
  ∑ f1 : Fin 64, eRe g h t2 f1 * (cosN 64 (f1.val * t1.val) / 8192)
    - ∑ f1 : Fin 64, eIm g h t2 f1 * (sinN 64 (f1.val * t1.val) / 8192)

/-- The kernel's inverse transform is the plain one. -/
theorem yRe_eq (G H : ℕ → ℝ) (g h : Fin 64 → Fin 128 → ℝ) (hg : ∀ f1 f2, g f1 f2 = G (64 * f2.val + f1.val))
    (hh : ∀ f1 f2, h f1 f2 = H (64 * f2.val + f1.val)) (t2 : Fin 128) (t1 : Fin 64) :
    yRe g h t2 t1 = (∑ f : Fin 8192, G f.val * cosN 8192 ((128 * t1.val + t2.val) * f.val)
      - ∑ f : Fin 8192, H f.val * sinN 8192 ((128 * t1.val + t2.val) * f.val)) / 8192 := by
  rw [sum_freqs (fun f => G f * cosN 8192 ((128 * t1.val + t2.val) * f)),
    sum_freqs (fun f => H f * sinN 8192 ((128 * t1.val + t2.val) * f)), ← Finset.sum_sub_distrib, Finset.sum_div]
  unfold yRe
  rw [← Finset.sum_sub_distrib]
  refine Finset.sum_congr rfl fun f1 _ => ?_
  unfold eRe eIm dRe dIm
  simp only [← Finset.sum_sub_distrib, ← Finset.sum_add_distrib, Finset.sum_mul, Finset.sum_div]
  refine Finset.sum_congr rfl fun f2 _ => ?_
  rw [cos_three, sin_three, ← hg, ← hh, Nat.mul_comm f1.val t1.val, Nat.mul_comm f2.val t2.val]
  ring

/-- Where the coefficients vanish beyond bin 4096 the sum over 8192 bins is the sum over the first 4097. -/
theorem sum_half (g : ℕ → ℝ) (hg : ∀ f, 4096 < f → g f = 0) : ∑ f : Fin 8192, g f.val = ∑ f : Fin 4097, g f.val := by
  rw [Fin.sum_univ_eq_sum_range (fun f => g f), Fin.sum_univ_eq_sum_range (fun f => g f)]
  refine (Finset.sum_subset (fun a ha => ?_) fun a _ hb => hg a ?_).symm
  · simp only [Finset.mem_range] at ha ⊢; omega
  · simp only [Finset.mem_range] at hb; omega

/-- A finite sum of real numbers is the same among the extended reals. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

end Cert.Fourier

end
-- ==== Proof.Layout.lean ====
/- Layout operations and matrix products of the kernel read at an index written by coordinates, for any extents. -/
module

public import Idealize.ShloMosaic.Lib.MatmulPlain
public import Idealize.ShloMosaic.Lib.ValueLayout
public import Idealize.ShloMosaic.Lib.ValueIdx
public import proofs.«01_k».proof.Proof.Dft

@[expose] public section

noncomputable section

namespace Cert.Layout

open Idealize.ShloMosaic Idealize.ShloMosaic.ValueIdx
open scoped BigOperators

variable {α : Type}

/-- A stack of matrices laid out as one tall matrix: row `p * b + q` is row `q` of matrix `p`. -/
theorem cast_stack {a b c n : Nat} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) := by
  refine shapeCast_apply x h _ _ ?_
  rw [Shape.rowMajor_val_three, Shape.rowMajor_val_two]
  show (p.val * b + q.val) * c + k.val = r.val * c + k.val
  rw [hr]

/-- A tall matrix cut into a stack of matrices: row `q` of matrix `p` is row `p * b + q`. -/
theorem cast_unstack {a b c n : Nat} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) := by
  refine shapeCast_apply x h _ _ ?_
  rw [Shape.rowMajor_val_three, Shape.rowMajor_val_two]
  show r.val * c + k.val = (p.val * b + q.val) * c + k.val
  rw [hr]

/-- A matrix with a trailing unit axis added. -/
theorem cast_unit3 {a b : Nat} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) := by
  refine shapeCast_apply x h _ _ ?_
  rw [Shape.rowMajor_val_three, Shape.rowMajor_val_two]
  show p.val * b + q.val = (p.val * b + q.val) * 1 + u.val
  omega

/-- One matrix broadcast over a stack. -/
theorem bcast_stack {a b c : Nat} (hb : b ≠ 1) (hc : c ≠ 1) (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 0 q k) := by
  refine broadcastTo_apply x h _ _ fun ax => ?_
  match ax with
  | ⟨0, _⟩ => simp
  | ⟨1, _⟩ => exact (if_neg hb).symm
  | ⟨2, _⟩ => exact (if_neg hc).symm

/-- One value per matrix broadcast over the matrix. -/
theorem bcast_fill {a b c : Nat} (ha : a ≠ 1) (x : (⟨3, ![a, 1, 1]⟩ : Shape).Idx → α)
    (h : (⟨3, ![a, 1, 1]⟩ : Shape).Broadcasts ⟨3, ![a, b, c]⟩) (p : Fin a) (q : Fin b) (k : Fin c) :
    broadcastTo ⟨3, ![a, b, c]⟩ x h (ix3 p q k) = x (ix3 p 0 0) := by
  refine broadcastTo_apply x h _ _ fun ax => ?_
  match ax with
  | ⟨0, _⟩ => exact (if_neg ha).symm
  | ⟨1, _⟩ => simp
  | ⟨2, _⟩ => simp

/-- A plain matrix product onto zero, its two lines known as real numbers, is the real dot product. -/
theorem matmul_coe {M K N : Nat} (d : DotDims ⟨2, ![M, K]⟩ ⟨2, ![K, N]⟩ ⟨2, ![M, N]⟩) (hd : d = DotDims.plain M K N)
    (prec : Option ContractPrecision) (l : FVec Ideal ⟨2, ![M, K]⟩ .f32) (r : FVec Ideal ⟨2, ![K, N]⟩ .f32)
    (i : Fin M) (j : Fin N) (a b : Fin K → ℝ)
    (hl : ∀ k, l (ix2 i k) = ((a k : ℝ) : EReal)) (hr : ∀ k, r (ix2 k j) = ((b k : ℝ) : EReal)) :
    FloatOps.matmul d prec l r (constant ⟨2, ![M, N]⟩ .f32 0x00000000#32) (ix2 i j) = ((∑ k, a k * b k : ℝ) : EReal) := by
  subst hd
  rw [Ideal.matmul_plain_apply, Cert.Fourier.coe_sum]
  have h0 : (constant ⟨2, ![M, N]⟩ .f32 0x00000000#32 : FVec Ideal ⟨2, ![M, N]⟩ .f32) (ix2 i j) = (0 : EReal) :=
    Ideal.ofBits_zero_f32
  rw [h0, zero_add]
  exact Finset.sum_congr rfl fun k _ => by rw [hl, hr, EReal.coe_mul]

end Cert.Layout
-- ==== Proof.Forward.lean ====
/- What one block of the kernel computes before the selection: the forward transform of the block's series, read at an
   index, as the real numbers of `Cert.Fourier`. -/
module

public import proofs.«01_k».proof.Proof.Gen.KernelIdeal.Skeleton
public import proofs.«01_k».proof.Proof.Layout

@[expose] public section

set_option maxRecDepth 16384

noncomputable section

namespace Cert.Block

open Idealize.ShloMosaic Idealize.ShloMosaic.ValueIdx Cert.KernelIdeal Cert.KernelIdeal.Gen Cert.Fourier Cert.Layout
open scoped BigOperators

/-- Row `128 * c + t2` of the matrix of all series of a block. -/
def wideRow (c : Fin 64) (t2 : Fin 128) : Fin 8192 := ⟨c.val * 128 + t2.val, by omega⟩
/-- Row `64 * c + f1` of the matrix of all series of a block. -/
def tallRow (c : Fin 64) (f1 : Fin 64) : Fin 4096 := ⟨c.val * 64 + f1.val, by omega⟩

/-- The zero accumulator of the kernel's products. -/
abbrev zeroAcc : FVec Ideal S4096x128 .f32 := constant S4096x128 .f32 0x00000000#32

/-- The product with a 64 × 64 table, cut back into one matrix per series. -/
theorem wide_matmul (l : FVec Ideal S8192x64 .f32) (r : FVec Ideal S64x64 .f32) (c : Fin 64) (t2 : Fin 128) (j : Fin 64)
    (a b : Fin 64 → ℝ) (hl : ∀ k, l (ix2 (wideRow c t2) k) = ((a k : ℝ) : EReal)) (hr : ∀ k, r (ix2 k j) = ((b k : ℝ) : EReal)) :
    matmul dot_S8192x64_S64x64_S8192x64_1_0_0_1_n_n (some .fp32) l r (constant S8192x64 .f32 0x00000000#32) (ix2 (wideRow c t2) j)
      = ((∑ k, a k * b k : ℝ) : EReal) :=
  matmul_coe dot_S8192x64_S64x64_S8192x64_1_0_0_1_n_n rfl (some .fp32) l r (wideRow c t2) j a b hl hr

/-- The product with a 128 × 128 table. -/
theorem tall_matmul (l : FVec Ideal S4096x128 .f32) (r : FVec Ideal S128x128 .f32) (c : Fin 64) (f1 : Fin 64) (j : Fin 128)
    (a b : Fin 128 → ℝ) (hl : ∀ k, l (ix2 (tallRow c f1) k) = ((a k : ℝ) : EReal)) (hr : ∀ k, r (ix2 k j) = ((b k : ℝ) : EReal)) :
    matmul dot_S4096x128_S128x128_S4096x128_1_0_0_1_n_n (some .fp32) l r (constant S4096x128 .f32 0x00000000#32) (ix2 (tallRow c f1) j)
      = ((∑ k, a k * b k : ℝ) : EReal) :=
  matmul_coe dot_S4096x128_S128x128_S4096x128_1_0_0_1_n_n rfl (some .fp32) l r (tallRow c f1) j a b hl hr

section

variable (X : Fin 64 → Fin 128 → Fin 64 → ℝ)
variable (v0 v2 : FVec Ideal S64x64 .f32) (v4 v6 : FVec Ideal S128x128 .f32) (v8 : FVec Ideal S1x64x128x64 .f32)
  (v17 v19 : FVec Ideal S1x128x64 .f32)
variable (hx : ∀ c t2 t1, v8 (ix4 0 c t2 t1) = ((X c t2 t1 : ℝ) : EReal))
  (h0 : ∀ k j : Fin 64, v0 (ix2 k j) = ((cosN 64 (k.val * j.val) : ℝ) : EReal))
  (h2 : ∀ k j : Fin 64, v2 (ix2 k j) = ((sinN 64 (k.val * j.val) : ℝ) : EReal))
  (h4 : ∀ k j : Fin 128, v4 (ix2 k j) = ((cosN 128 (k.val * j.val) : ℝ) : EReal))
  (h6 : ∀ k j : Fin 128, v6 (ix2 k j) = ((sinN 128 (k.val * j.val) : ℝ) : EReal))
  (h17 : ∀ (t2 : Fin 128) (f1 : Fin 64), v17 (ix3 0 t2 f1) = ((cosN 8192 (t2.val * f1.val) : ℝ) : EReal))
  (h19 : ∀ (t2 : Fin 128) (f1 : Fin 64), v19 (ix3 0 t2 f1) = ((sinN 8192 (t2.val * f1.val) : ℝ) : EReal))

include hx in
/-- The block's input laid out as one tall matrix. -/
theorem pay4_apply (c : Fin 64) (t2 : Fin 128) (k : Fin 64) :
    k0_pay4 (F := Ideal) v8 (ix2 (wideRow c t2) k) = ((X c t2 k : ℝ) : EReal) := by
  unfold k0_pay4
  rw [cast_stack _ _ c t2 k _ rfl, shapeCast_1abc_abc_apply, hx]

include hx h0 in
/-- The cosine half of the 64-point transforms. -/
theorem pay5_apply (c : Fin 64) (t2 : Fin 128) (f1 : Fin 64) :
    k0_pay5 (F := Ideal) v0 v8 (ix3 c t2 f1) = ((aRe (X c) t2 f1 : ℝ) : EReal) := by
  unfold k0_pay5
  rw [cast_unstack _ _ c t2 f1 (wideRow c t2) rfl]
  refine (wide_matmul _ _ c t2 f1 (X c t2) (fun k => cosN 64 (k.val * f1.val)) (pay4_apply X v8 hx c t2) fun k => ?_).trans rfl
  rw [shapeCast_self, h0]

include hx h2 in
/-- The negated sine half of the 64-point transforms. -/
theorem pay6_apply (c : Fin 64) (t2 : Fin 128) (f1 : Fin 64) :
    k0_pay6 (F := Ideal) v2 v8 (ix3 c t2 f1) = ((aIm (X c) t2 f1 : ℝ) : EReal) := by
  unfold k0_pay6
  rw [subf_apply, cast_unstack _ _ c t2 f1 (wideRow c t2) rfl, broadcast_apply]
  rw [wide_matmul _ _ c t2 f1 (X c t2) (fun k => sinN 64 (k.val * f1.val)) (pay4_apply X v8 hx c t2)
    (fun k => by rw [shapeCast_self, h2])]
  have hz : (Scalar.ofBits (F := Ideal) .f32 0x00000000#32 : EReal) = ((0 : ℝ) : EReal) := Ideal.ofBits_zero_f32
  exact (congrArg (fun z : EReal => z - _) hz).trans (EReal.coe_sub _ _).symm

include hx h0 h2 h17 h19 in
/-- The real part after the first twiddle. -/
theorem pay9_apply (c : Fin 64) (f1 : Fin 64) (t2 : Fin 128) :
    k0_pay9 (F := Ideal) v0 v2 v8 v17 v19 (ix2 (tallRow c f1) t2) = ((bRe (X c) f1 t2 : ℝ) : EReal) := by
  unfold k0_pay9 k0_pay7 k0_pay8
  rw [cast_stack _ _ c f1 t2 _ rfl, transpose_ix3_021_apply, addf_apply, mulf_apply, mulf_apply,
    bcast_stack (by decide) (by decide), bcast_stack (by decide) (by decide), shapeCast_self, shapeCast_self,
    pay5_apply X v0 v8 hx h0, pay6_apply X v2 v8 hx h2, h17, h19]
  rw [← EReal.coe_mul, ← EReal.coe_mul, ← EReal.coe_add]
  rfl

include hx h0 h2 h17 h19 in
/-- The imaginary part after the first twiddle. -/
theorem pay10_apply (c : Fin 64) (f1 : Fin 64) (t2 : Fin 128) :
    k0_pay10 (F := Ideal) v0 v2 v8 v17 v19 (ix2 (tallRow c f1) t2) = ((bIm (X c) f1 t2 : ℝ) : EReal) := by
  unfold k0_pay10 k0_pay7 k0_pay8
  rw [cast_stack _ _ c f1 t2 _ rfl, transpose_ix3_021_apply, subf_apply, mulf_apply, mulf_apply,
    bcast_stack (by decide) (by decide), bcast_stack (by decide) (by decide), shapeCast_self, shapeCast_self,
    pay5_apply X v0 v8 hx h0, pay6_apply X v2 v8 hx h2, h17, h19]
  rw [← EReal.coe_mul, ← EReal.coe_mul, ← EReal.coe_sub]
  rfl

include hx h0 h2 h4 h6 h17 h19 in
/-- The real part of the spectrum of series `c` at frequency `64 * f2 + f1`. -/
theorem pay12_apply (c : Fin 64) (f1 : Fin 64) (f2 : Fin 128) :
    k0_pay12 (F := Ideal) (k0_pay3 v6) (k0_pay10 v0 v2 v8 v17 v19) (k0_pay11 v0 v2 v4 v8 v17 v19) zeroAcc (ix2 (tallRow c f1) f2)
      = ((sRe (X c) f1 f2 : ℝ) : EReal) := by
  unfold k0_pay12 k0_pay11 k0_pay2 k0_pay3 zeroAcc
  rw [addf_apply, tall_matmul _ _ c f1 f2 (bRe (X c) f1) (fun k => cosN 128 (k.val * f2.val))
      (pay9_apply X v0 v2 v8 v17 v19 hx h0 h2 h17 h19 c f1) (fun k => by rw [shapeCast_self, h4]),
    tall_matmul _ _ c f1 f2 (bIm (X c) f1) (fun k => sinN 128 (k.val * f2.val))
      (pay10_apply X v0 v2 v8 v17 v19 hx h0 h2 h17 h19 c f1) (fun k => by rw [shapeCast_self, h6])]
  exact (EReal.coe_add _ _).symm

include hx h0 h2 h4 h6 h17 h19 in
/-- The imaginary part of the spectrum of series `c` at frequency `64 * f2 + f1`. -/
theorem pay13_apply (c : Fin 64) (f1 : Fin 64) (f2 : Fin 128) :
    k0_pay13 (F := Ideal) (k0_pay2 v4) (k0_pay3 v6) (k0_pay9 v0 v2 v8 v17 v19) (k0_pay10 v0 v2 v8 v17 v19) (ix2 (tallRow c f1) f2)
      = ((sIm (X c) f1 f2 : ℝ) : EReal) := by
  unfold k0_pay13 k0_pay2 k0_pay3
  rw [subf_apply, tall_matmul _ _ c f1 f2 (bIm (X c) f1) (fun k => cosN 128 (k.val * f2.val))
      (pay10_apply X v0 v2 v8 v17 v19 hx h0 h2 h17 h19 c f1) (fun k => by rw [shapeCast_self, h4]),
    tall_matmul _ _ c f1 f2 (bRe (X c) f1) (fun k => sinN 128 (k.val * f2.val))
      (pay9_apply X v0 v2 v8 v17 v19 hx h0 h2 h17 h19 c f1) (fun k => by rw [shapeCast_self, h6])]
  exact (EReal.coe_sub _ _).symm

/-- The squared amplitude of series `c` at frequency `64 * f2 + f1`. -/
def power (X : Fin 128 → Fin 64 → ℝ) (f1 : Fin 64) (f2 : Fin 128) : ℝ := sRe X f1 f2 * sRe X f1 f2 + sIm X f1 f2 * sIm X f1 f2

include hx h0 h2 h4 h6 h17 h19 in
/-- The block's squared amplitudes. -/
theorem pay14_apply (c : Fin 64) (f1 : Fin 64) (f2 : Fin 128) :
    k0_pay14 (F := Ideal) (k0_pay2 v4) (k0_pay3 v6) (k0_pay9 v0 v2 v8 v17 v19) (k0_pay10 v0 v2 v8 v17 v19) (k0_pay11 v0 v2 v4 v8 v17 v19) zeroAcc
        (ix3 c f1 f2) = ((power (X c) f1 f2 : ℝ) : EReal) := by
  unfold k0_pay14
  rw [cast_unstack _ _ c f1 f2 (tallRow c f1) rfl, addf_apply, mulf_apply, mulf_apply,
    pay12_apply X v0 v2 v4 v6 v8 v17 v19 hx h0 h2 h4 h6 h17 h19, pay13_apply X v0 v2 v4 v6 v8 v17 v19 hx h0 h2 h4 h6 h17 h19]
  rw [← EReal.coe_mul, ← EReal.coe_mul, ← EReal.coe_add]
  rfl

end

end Cert.Block
-- ==== Proof.Inverse.lean ====
/- What one block of the kernel computes after the selection: the inverse transform of the kept spectrum, read at an index,
   as the real numbers of `Cert.Fourier`. -/
module

public import proofs.«01_k».proof.Proof.Forward

@[expose] public section

set_option maxRecDepth 16384

noncomputable section

namespace Cert.Block

open Idealize.ShloMosaic Idealize.ShloMosaic.ValueIdx Cert.KernelIdeal Cert.KernelIdeal.Gen Cert.Fourier Cert.Layout
open scoped BigOperators

variable (S T K : Fin 64 → Fin 64 → Fin 128 → ℝ)
variable (v5 v7 : FVec Ideal S128x128 .f32) (v37 v40 : FVec Ideal S4096x128 .f32) (v41 : FVec Ideal S1x64x128 .f32)
  (v45 v291 v296 : FVec Ideal S64x64x128 .f32) (v324 v326 : FVec Ideal S1x64x128 .f32) (v342 v345 : FVec Ideal S64x64 .f32)
variable (h5 : ∀ k j : Fin 128, v5 (ix2 k j) = ((cosN 128 (k.val * j.val) : ℝ) : EReal))
  (h7 : ∀ k j : Fin 128, v7 (ix2 k j) = ((sinN 128 (k.val * j.val) : ℝ) : EReal))
  (h37 : ∀ c f1 f2, v37 (ix2 (tallRow c f1) f2) = ((S c f1 f2 : ℝ) : EReal))
  (h40 : ∀ c f1 f2, v40 (ix2 (tallRow c f1) f2) = ((T c f1 f2 : ℝ) : EReal))
  (hK : ∀ c f1 f2, k0_pay27 (F := Ideal) v41 v45 v291 v296 (ix3 c f1 f2) = ((K c f1 f2 : ℝ) : EReal))
  (h324 : ∀ (f1 : Fin 64) (t2 : Fin 128), v324 (ix3 0 f1 t2) = ((cosN 8192 (t2.val * f1.val) : ℝ) : EReal))
  (h326 : ∀ (f1 : Fin 64) (t2 : Fin 128), v326 (ix3 0 f1 t2) = ((sinN 8192 (t2.val * f1.val) : ℝ) : EReal))
  (h342 : ∀ k j : Fin 64, v342 (ix2 k j) = ((cosN 64 (k.val * j.val) / 8192 : ℝ) : EReal))
  (h345 : ∀ k j : Fin 64, v345 (ix2 k j) = ((sinN 64 (k.val * j.val) / 8192 : ℝ) : EReal))

include h37 hK in
/-- The real part that the first inverse stage starts from, at an entry. -/
theorem pay28_apply (c f1 : Fin 64) (f2 : Fin 128) :
    k0_pay28 (F := Ideal) v37 v41 v45 v291 v296 (ix2 (tallRow c f1) f2) = ((K c f1 f2 * S c f1 f2 : ℝ) : EReal) := by
  unfold k0_pay28
  rw [cast_stack _ _ c f1 f2 _ rfl, mulf_apply, hK, cast_unstack _ _ c f1 f2 (tallRow c f1) rfl, h37, EReal.coe_mul]

include h40 hK in
/-- The imaginary part that the first inverse stage starts from, at an entry. -/
theorem pay29_apply (c f1 : Fin 64) (f2 : Fin 128) :
    k0_pay29 (F := Ideal) v40 v41 v45 v291 v296 (ix2 (tallRow c f1) f2) = ((K c f1 f2 * T c f1 f2 : ℝ) : EReal) := by
  unfold k0_pay29
  rw [cast_stack _ _ c f1 f2 _ rfl, mulf_apply, hK, cast_unstack _ _ c f1 f2 (tallRow c f1) rfl, h40, EReal.coe_mul]

include h5 h7 h37 h40 hK in
/-- The real part of the inverse transforms of length 128. -/
theorem pay30_apply (c f1 : Fin 64) (t2 : Fin 128) :
    k0_pay30 (F := Ideal) v5 v7 v37 v40 v41 v45 v291 v296 (ix3 c f1 t2)
      = ((dRe (fun a b => K c a b * S c a b) (fun a b => K c a b * T c a b) f1 t2 : ℝ) : EReal) := by
  unfold k0_pay30
  rw [cast_unstack _ _ c f1 t2 (tallRow c f1) rfl, subf_apply,
    tall_matmul _ _ c f1 t2 _ _ (pay28_apply S K v37 v41 v45 v291 v296 h37 hK c f1) (fun k => h5 k t2),
    tall_matmul _ _ c f1 t2 _ _ (pay29_apply T K v40 v41 v45 v291 v296 h40 hK c f1) (fun k => h7 k t2)]
  exact (EReal.coe_sub _ _).symm

include h5 h7 h37 h40 hK in
/-- The imaginary part of the inverse transforms of length 128. -/
theorem pay31_apply (c f1 : Fin 64) (t2 : Fin 128) :
    k0_pay31 (F := Ideal) v5 v7 v37 v40 v41 v45 v291 v296 (ix3 c f1 t2)
      = ((dIm (fun a b => K c a b * S c a b) (fun a b => K c a b * T c a b) f1 t2 : ℝ) : EReal) := by
  unfold k0_pay31
  rw [cast_unstack _ _ c f1 t2 (tallRow c f1) rfl, addf_apply,
    tall_matmul _ _ c f1 t2 _ _ (pay28_apply S K v37 v41 v45 v291 v296 h37 hK c f1) (fun k => h7 k t2),
    tall_matmul _ _ c f1 t2 _ _ (pay29_apply T K v40 v41 v45 v291 v296 h40 hK c f1) (fun k => h5 k t2)]
  exact (EReal.coe_add _ _).symm

include h5 h7 h37 h40 hK h324 h326 in
/-- The real part after the inverse twiddle. -/
theorem pay34_apply (c : Fin 64) (t2 : Fin 128) (f1 : Fin 64) :
    k0_pay34 (F := Ideal) v5 v7 v37 v40 v41 v45 v291 v296 v324 v326 (ix2 (wideRow c t2) f1)
      = ((eRe (fun a b => K c a b * S c a b) (fun a b => K c a b * T c a b) t2 f1 : ℝ) : EReal) := by
  unfold k0_pay34 k0_pay32 k0_pay33
  rw [cast_stack _ _ c t2 f1 _ rfl, transpose_ix3_021_apply, subf_apply, mulf_apply, mulf_apply,
    bcast_stack (by decide) (by decide), bcast_stack (by decide) (by decide), shapeCast_self, shapeCast_self,
    pay30_apply S T K v5 v7 v37 v40 v41 v45 v291 v296 h5 h7 h37 h40 hK,
    pay31_apply S T K v5 v7 v37 v40 v41 v45 v291 v296 h5 h7 h37 h40 hK, h324, h326]
  rw [← EReal.coe_mul, ← EReal.coe_mul, ← EReal.coe_sub]
  rfl

include h5 h7 h37 h40 hK h324 h326 in
/-- The imaginary part after the inverse twiddle. -/
theorem pay35_apply (c : Fin 64) (t2 : Fin 128) (f1 : Fin 64) :
    k0_pay35 (F := Ideal) v5 v7 v37 v40 v41 v45 v291 v296 v324 v326 (ix2 (wideRow c t2) f1)
      = ((eIm (fun a b => K c a b * S c a b) (fun a b => K c a b * T c a b) t2 f1 : ℝ) : EReal) := by
  unfold k0_pay35 k0_pay32 k0_pay33
  rw [cast_stack _ _ c t2 f1 _ rfl, transpose_ix3_021_apply, addf_apply, mulf_apply, mulf_apply,
    bcast_stack (by decide) (by decide), bcast_stack (by decide) (by decide), shapeCast_self, shapeCast_self,
    pay30_apply S T K v5 v7 v37 v40 v41 v45 v291 v296 h5 h7 h37 h40 hK,
    pay31_apply S T K v5 v7 v37 v40 v41 v45 v291 v296 h5 h7 h37 h40 hK, h324, h326]
  rw [← EReal.coe_mul, ← EReal.coe_mul, ← EReal.coe_add]
  rfl

include h5 h7 h37 h40 hK h324 h326 h342 h345 in
/-- The block's result: the real part of the inverse transform. -/
theorem pay1_apply (c : Fin 64) (t2 : Fin 128) (t1 : Fin 64) :
    k0_pay1 (F := Ideal) (k0_pay34 v5 v7 v37 v40 v41 v45 v291 v296 v324 v326) (k0_pay35 v5 v7 v37 v40 v41 v45 v291 v296 v324 v326)
        v342 v345 (ix4 0 c t2 t1)
      = ((yRe (fun a b => K c a b * S c a b) (fun a b => K c a b * T c a b) t2 t1 : ℝ) : EReal) := by
  unfold k0_pay1
  rw [shapeCast_abc_1abc_apply, cast_unstack _ _ c t2 t1 (wideRow c t2) rfl, subf_apply,
    wide_matmul _ _ c t2 t1 _ (fun k => cosN 64 (k.val * t1.val) / 8192)
      (pay34_apply S T K v5 v7 v37 v40 v41 v45 v291 v296 v324 v326 h5 h7 h37 h40 hK h324 h326 c t2) (fun k => by rw [shapeCast_self, h342]),
    wide_matmul _ _ c t2 t1 _ (fun k => sinN 64 (k.val * t1.val) / 8192)
      (pay35_apply S T K v5 v7 v37 v40 v41 v45 v291 v296 v324 v326 h5 h7 h37 h40 hK h324 h326 c t2) (fun k => by rw [shapeCast_self, h345])]
  exact (EReal.coe_sub _ _).symm

end Cert.Block
-- ==== Proof.Select.lean ====
/- Picking the largest by repeated removal, over a linear order: the maximum is taken and every entry equal to it is
   overwritten, 31 times; the maximum then left is a threshold that tells the 32 largest entries from the others. -/
module

public import Mathlib.Data.EReal.Basic
public import Mathlib.Data.Fintype.Card
public import Mathlib.Data.Fintype.Lattice
public import Mathlib.Order.ConditionallyCompleteLattice.Finset

@[expose] public section

noncomputable section

namespace Cert.Select

variable {ι : Type*}

/-- One removal: every entry equal to the maximum becomes `bot`. -/
def strip (bot : EReal) (v : ι → EReal) : ι → EReal := fun f => if v f = ⨆ g, v g then bot else v f

variable {bot : EReal} {v : ι → EReal}

/-- After any number of removals an entry is as it was or has been removed. -/
theorem strip_or (k : ℕ) (f : ι) : ((strip bot)^[k] v) f = bot ∨ ((strip bot)^[k] v) f = v f := by
  induction k with
  | zero => exact Or.inr rfl
  | succ k ih =>
    rw [Function.iterate_succ_apply']
    by_cases h : ((strip bot)^[k] v) f = ⨆ g, ((strip bot)^[k] v) g
    · left; simp only [strip]; rw [if_pos h]
    · simp only [strip]; rw [if_neg h]; exact ih

/-- An entry not equal to any of the maxima taken so far is still there. -/
theorem strip_kept (k : ℕ) (f : ι) (h : ∀ j < k, v f ≠ ⨆ g, ((strip bot)^[j] v) g) : ((strip bot)^[k] v) f = v f := by
  induction k with
  | zero => rfl
  | succ k ih =>
    have e := ih fun j hj => h j (by omega)
    rw [Function.iterate_succ_apply']
    simp only [strip]
    rw [if_neg (by rw [e]; exact h k (by omega)), e]

variable [Finite ι] [Nonempty ι]

/-- A maximum over finitely many entries is one of them. -/
theorem attained (u : ι → EReal) : ∃ f, u f = ⨆ g, u g := exists_eq_ciSup_of_finite

/-- While the maximum is above `bot` the next one is below it. -/
theorem max_lt (k : ℕ) (h : bot < ⨆ g, ((strip bot)^[k] v) g) :
    (⨆ g, ((strip bot)^[k + 1] v) g) < ⨆ g, ((strip bot)^[k] v) g := by
  obtain ⟨f, hf⟩ := attained ((strip bot)^[k + 1] v)
  rw [← hf, Function.iterate_succ_apply']
  simp only [strip]
  split
  · exact h
  · rename_i hne
    exact lt_of_le_of_ne (le_iSup _ f) hne

/-- A maximum above `bot` means that every earlier one was too. -/
theorem bot_lt (k : ℕ) (h : bot < ⨆ g, ((strip bot)^[k] v) g) : ∀ j ≤ k, bot < ⨆ g, ((strip bot)^[j] v) g := by
  induction k with
  | zero => intro j hj; obtain rfl : j = 0 := by omega
            exact h
  | succ k ih =>
    have hk : bot < ⨆ g, ((strip bot)^[k] v) g := by
      by_contra hc
      rw [not_lt] at hc
      refine absurd h (not_lt.mpr (iSup_le fun f => ?_))
      rw [Function.iterate_succ_apply']
      simp only [strip]
      split
      · exact le_rfl
      · exact (le_iSup _ f).trans hc
    intro j hj
    rcases Nat.lt_or_ge j (k + 1) with h' | h'
    · exact ih hk j (by omega)
    · obtain rfl : j = k + 1 := by omega
      exact h

/-- So the maxima up to one above `bot` strictly decrease. -/
theorem max_anti (k : ℕ) (h : bot < ⨆ g, ((strip bot)^[k] v) g) (i j : ℕ) (hij : i < j) (hj : j ≤ k) :
    (⨆ g, ((strip bot)^[j] v) g) < ⨆ g, ((strip bot)^[i] v) g := by
  induction j with
  | zero => omega
  | succ j ih =>
    have hlt := max_lt j (bot_lt k h j (by omega))
    rcases Nat.lt_or_ge i j with h' | h'
    · exact hlt.trans (ih h' (by omega))
    · obtain rfl : i = j := by omega
      exact hlt

/-- A maximum above `bot` is the value of an entry of the original. -/
theorem max_mem (k : ℕ) (h : bot < ⨆ g, ((strip bot)^[k] v) g) : ∃ f, v f = ⨆ g, ((strip bot)^[k] v) g := by
  obtain ⟨f, hf⟩ := attained ((strip bot)^[k] v)
  refine ⟨f, ?_⟩
  rcases strip_or (bot := bot) (v := v) k f with e | e
  · rw [← hf, e] at h; exact absurd h (lt_irrefl _)
  · rw [← e, hf]

/-- THE THRESHOLD keeps the largest: an entry `f` of a set `T` of `n` entries that no entry outside exceeds is at least the
    maximum left after `n - 1` removals, unless it is below `bot`. -/
theorem le_of_mem (n : ℕ) (T : Finset ι) (hT : T.card = n + 1) (htop : ∀ f ∈ T, ∀ g ∉ T, v g ≤ v f)
    (f : ι) (hf : f ∈ T) (hbot : bot ≤ v f) : (⨆ g, ((strip bot)^[n] v) g) ≤ v f := by
  classical
  by_contra hc
  rw [not_le] at hc
  have hb : bot < ⨆ g, ((strip bot)^[n] v) g := lt_of_le_of_lt hbot hc
  choose! w hw using fun j (hj : j ≤ n) => max_mem (v := v) j (bot_lt n hb j hj)
  have hgt : ∀ j ≤ n, v f < v (w j) := by
    intro j hj
    rw [hw j hj]
    rcases Nat.lt_or_ge j n with h' | h'
    · exact hc.trans (max_anti n hb j n h' le_rfl)
    · obtain rfl : j = n := by omega
      exact hc
  have hmem : ∀ j ≤ n, w j ∈ T.erase f := by
    intro j hj
    rw [Finset.mem_erase]
    refine ⟨fun e => absurd (hgt j hj) (by rw [e]; exact lt_irrefl _), ?_⟩
    by_contra hn
    exact absurd (hgt j hj) (not_lt.mpr (htop f hf _ hn))
  have hinj : Set.InjOn w (Finset.range (n + 1) : Set ℕ) := by
    intro i hi j hj e
    simp only [Finset.coe_range, Set.mem_Iio] at hi hj
    by_contra hne
    have h1 := hw i (by omega)
    have h2 := hw j (by omega)
    rw [e, h2] at h1
    rcases Nat.lt_or_gt_of_ne hne with h' | h'
    · exact absurd h1 (max_anti n hb i j h' (by omega)).ne
    · exact absurd h1 (max_anti n hb j i h' (by omega)).ne'
  have := Finset.card_le_card_of_injOn w (fun j hj => hmem j (by simp only [Finset.coe_range, Set.mem_Iio] at hj; omega)) hinj
  rw [Finset.card_range, Finset.card_erase_of_mem hf, hT] at this
  omega

/-- THE THRESHOLD drops the others: where the `n + 1` entries of `T` differ, an entry that all of them exceed is below the
    maximum left after `n` removals. -/
theorem lt_of_notMem (n : ℕ) (T : Finset ι) (hT : T.card = n + 1) (hinj : Set.InjOn v (T : Set ι))
    (f : ι) (hf : ∀ g ∈ T, v f < v g) : v f < ⨆ g, ((strip bot)^[n] v) g := by
  classical
  have hex : ∃ g ∈ T, ∀ j < n, v g ≠ ⨆ h, ((strip bot)^[j] v) h := by
    by_contra hc
    push Not at hc
    choose! w hw hw' using hc
    have hi : Set.InjOn w (T : Set ι) := by
      intro a ha b hb e
      refine hinj ha hb ?_
      rw [hw' a ha, hw' b hb, e]
    have := Finset.card_le_card_of_injOn (t := Finset.range n) w
      (fun a ha => by simp only [Finset.coe_range, Set.mem_Iio]; exact hw a ha) hi
    rw [Finset.card_range, hT] at this
    omega
  obtain ⟨g, hg, hk⟩ := hex
  refine lt_of_lt_of_le (hf g hg) ?_
  rw [← strip_kept (bot := bot) n g hk]
  exact le_iSup _ g

end Cert.Select

end
-- ==== Proof.Rounds.lean ====
/- The kernel's selection rounds. Each takes the maximum over all frequencies of a series and overwrites the entries equal
   to it with −1, which is `Cert.Select.strip (-1)` on the series; the rounds printed one by one are 31 of these. -/
module

public import proofs.«01_k».proof.Proof.Gen.KernelIdeal.Skeleton
public import proofs.«01_k».proof.Proof.Layout
public import proofs.«01_k».proof.Proof.Select

@[expose] public section

set_option maxRecDepth 16384

noncomputable section

namespace Cert.Block

open Idealize.ShloMosaic Idealize.ShloMosaic.ValueIdx Cert.KernelIdeal Cert.KernelIdeal.Gen Cert.Layout
open scoped BigOperators

/-- The maximum of each row. -/
def rowMax (v : FVec Ideal S64x64x128 .f32) : FVec Ideal S64x64 .f32 :=
  multiReduction .maximumf [2] S64x64 v 0xFF800000#32 reduces_S64x64x128_S64x64 (.inl rfl) rfl

/-- The maximum of each series from its rows' maxima, broadcast over the series. -/
def fill (m : FVec Ideal S64x64x1 .f32) : FVec Ideal S64x64x128 .f32 :=
  broadcastTo S64x64x128 (shapeCast S64x1x1 (multiReduction .maximumf [1] S64x1 m 0xFF800000#32 reduces_S64x64x1_S64x1 (.inl rfl) rfl)
    shapeCasts_S64x1_S64x1x1) broadcasts_S64x1x1_S64x64x128

/-- The rows' maxima with a unit axis added. -/
def half (v : FVec Ideal S64x64x128 .f32) : FVec Ideal S64x64x1 .f32 := shapeCast S64x64x1 (rowMax v) shapeCasts_S64x64_S64x64x1

/-- The maximum of each series, broadcast over the series. -/
def top (v : FVec Ideal S64x64x128 .f32) : FVec Ideal S64x64x128 .f32 := fill (half v)

/-- Where an entry equals the maximum of its series. -/
def mask (v : FVec Ideal S64x64x128 .f32) : IVec S64x64x128 1 := cmpf .oeq v (top v)

/-- The fill value of the overwritten entries. -/
abbrev minusOne : Ideal .f32 := Scalar.ofBits .f32 0xBF800000#32

/-- One round. -/
def round (v : FVec Ideal S64x64x128 .f32) : FVec Ideal S64x64x128 .f32 := select (mask v) (broadcast S64x64x128 minusOne) v

/-- This stage is five rounds. -/
theorem pay17_eq (v : FVec Ideal S64x64x128 .f32) : k0_pay17 v (half v) = round (round (round (round (round v)))) := rfl
/-- This stage marks the entries that equal the maximum. -/
theorem pay18_eq (v : FVec Ideal S64x64x128 .f32) (m : FVec Ideal S64x64x1 .f32) : k0_pay18 v m = mask (k0_pay17 v m) := rfl
/-- This stage is six rounds. -/
theorem pay19_eq (v : FVec Ideal S64x64x128 .f32) :
    k0_pay19 v (mask v) minusOne = round (round (round (round (round (round v))))) := rfl
/-- This stage takes the maxima of each row. -/
theorem pay20_eq (v : FVec Ideal S64x64x128 .f32) (b : IVec S64x64x128 1) (z : Ideal .f32) : k0_pay20 v b z = half (k0_pay19 v b z) := rfl
/-- This stage is five rounds. -/
theorem pay21_eq (v : FVec Ideal S64x64x128 .f32) : k0_pay21 v (half v) = round (round (round (round (round v)))) := rfl
/-- This stage marks the entries that equal the maximum. -/
theorem pay22_eq (v : FVec Ideal S64x64x128 .f32) (m : FVec Ideal S64x64x1 .f32) : k0_pay22 v m = mask (k0_pay21 v m) := rfl
/-- This stage is six rounds. -/
theorem pay23_eq (v : FVec Ideal S64x64x128 .f32) : k0_pay23 v (mask v) = round (round (round (round (round (round v))))) := rfl
/-- This stage takes the maxima of each row. -/
theorem pay24_eq (v : FVec Ideal S64x64x128 .f32) (b : IVec S64x64x128 1) : k0_pay24 v b = rowMax (k0_pay23 v b) := rfl
/-- This stage is five rounds. -/
theorem pay25_eq (v : FVec Ideal S64x64x128 .f32) : k0_pay25 v (rowMax v) = round (round (round (round (round v)))) := rfl
/-- This stage takes the maximum of each series. -/
theorem pay26_eq (v : FVec Ideal S64x64x128 .f32) (r : FVec Ideal S64x64 .f32) : k0_pay26 v r = top (k0_pay25 v r) := rfl

/-- The array the selection starts from: the squared amplitudes, −1 at frequencies of weight zero. -/
def start (p : FVec Ideal S64x64x128 .f32) (w : FVec Ideal S1x64x128 .f32) : FVec Ideal S64x64x128 .f32 :=
  select (broadcastTo S64x64x128 (shapeCast S1x64x128 (cmpf .ogt w (broadcast S1x64x128 (Scalar.ofBits (F := Ideal) .f32 0x00000000#32)))
    shapeCasts_S1x64x128_S1x64x128) broadcasts_S1x64x128_S64x64x128) p (broadcast S64x64x128 minusOne)

/-- This stage is three rounds from the array that the selection starts from. -/
theorem pay15_eq (v5 v7 : FVec Ideal S128x128 .f32) (v32 v34 v35 z : FVec Ideal S4096x128 .f32) (w : FVec Ideal S1x64x128 .f32) :
    k0_pay15 v5 v7 v32 v34 v35 z w = round (round (round (start (k0_pay14 v5 v7 v32 v34 v35 z) w))) := rfl
/-- This stage takes the maxima of each row. -/
theorem pay16_eq (v5 v7 : FVec Ideal S128x128 .f32) (v32 v34 v35 z : FVec Ideal S4096x128 .f32) (w : FVec Ideal S1x64x128 .f32) :
    k0_pay16 v5 v7 v32 v34 v35 z w = half (k0_pay15 v5 v7 v32 v34 v35 z w) := rfl

/-- The weights kept: those where the squared amplitude reaches the maximum left after one more round. -/
theorem pay27_eq (w : FVec Ideal S1x64x128 .f32) (p v : FVec Ideal S64x64x128 .f32) :
    k0_pay27 w p v (top v) = select (cmpf .oge p (top (round v)))
      (broadcastTo S64x64x128 (shapeCast S1x64x128 w shapeCasts_S1x64x128_S1x64x128) broadcasts_S1x64x128_S64x64x128)
      (broadcast S64x64x128 (Scalar.ofBits (F := Ideal) .f32 0x00000000#32)) := rfl

/-- The word of −∞ is the least extended real. -/
theorem ofBits_negInf : (FloatOps.ofBits (F := Ideal) .f32 0xFF800000#32 : EReal) = ⊥ := by
  show Ideal.ofBits .f32 0xFF800000#32 = ⊥
  simp [Ideal.ofBits, Ideal.ieee]

/-- The fill value is −1. -/
theorem minusOne_eq : (minusOne : EReal) = ((-1 : ℝ) : EReal) := by
  show Ideal.ofBits .f32 0xBF800000#32 = _
  simp [Ideal.ofBits, Ideal.ieee, -EReal.coe_mul]; norm_num

/-- Folding `max` from −∞ is the supremum. -/
theorem fold_max_eq {n : ℕ} (f : Fin n → EReal) :
    (Finset.univ : Finset (Fin n)).fold max (FloatOps.ofBits (F := Ideal) .f32 0xFF800000#32 : EReal) f = ⨆ k, f k := by
  have hb : (FloatOps.ofBits (F := Ideal) .f32 0xFF800000#32 : EReal) = ⊥ := ofBits_negInf
  rw [hb, ← Finset.sup_univ_eq_iSup]
  rfl

/-- The maximum down the one column of rows' maxima. -/
theorem colMax_apply (m : FVec Ideal S64x64x1 .f32) (c : Fin 64) :
    (multiReduction .maximumf [1] S64x1 m 0xFF800000#32 reduces_S64x64x1_S64x1 (.inl rfl) rfl : FVec Ideal S64x1 .f32) (ix2 c 0)
      = (⨆ k : Fin 64, (m (ix3 c k 0) : EReal)) := by
  refine (Ideal.multiReduction_maximumf_single m _ reduces_S64x64x1_S64x1 (.inl rfl) rfl _).trans ?_
  refine (fold_max_eq (n := 64) _).trans (iSup_congr fun k => congrArg m ?_)
  funext a; apply Fin.ext
  match a with
  | ⟨0, _⟩ => rfl
  | ⟨1, _⟩ => rfl
  | ⟨2, _⟩ => rfl

/-- The row maxima kept as a column, at an entry. -/
theorem half_apply (v : FVec Ideal S64x64x128 .f32) (c k : Fin 64) : half v (ix3 c k 0) = rowMax v (ix2 c k) := cast_unit3 _ _ c k 0

/-- The maximum of a row is the supremum of its entries. -/
theorem rowMax_apply (v : FVec Ideal S64x64x128 .f32) (c : Fin 64) (f1 : Fin 64) :
    rowMax v (ix2 c f1) = (⨆ k : Fin 128, (v (ix3 c f1 k) : EReal)) := by
  refine (Ideal.multiReduction_maximumf_single v _ reduces_S64x64x128_S64x64 (.inl rfl) rfl _).trans ?_
  refine (fold_max_eq (n := 128) _).trans (iSup_congr fun k => congrArg v ?_)
  funext a; apply Fin.ext
  match a with
  | ⟨0, _⟩ => rfl
  | ⟨1, _⟩ => rfl
  | ⟨2, _⟩ => rfl

/-- The maximum of a series over its frequencies. -/
theorem top_apply (v : FVec Ideal S64x64x128 .f32) (c : Fin 64) (f1 : Fin 64) (f2 : Fin 128) :
    top v (ix3 c f1 f2) = (⨆ g : Fin 64 × Fin 128, (v (ix3 c g.1 g.2) : EReal)) := by
  unfold top fill
  rw [bcast_fill (by decide), cast_unit3]
  refine (colMax_apply (half v) c).trans ?_
  refine Eq.trans ?_ (iSup_prod (f := fun g : Fin 64 × Fin 128 => (v (ix3 c g.1 g.2) : EReal))).symm
  exact iSup_congr fun k => (half_apply v c k).trans (rowMax_apply v c k)

/-- One round, at an entry: the maximum becomes -1 and the rest stay. -/
theorem round_apply (v : FVec Ideal S64x64x128 .f32) (c : Fin 64) (g : Fin 64 × Fin 128) :
    round v (ix3 c g.1 g.2) = Cert.Select.strip minusOne (fun h : Fin 64 × Fin 128 => (v (ix3 c h.1 h.2) : EReal)) g := by
  unfold round mask Cert.Select.strip
  rw [select_apply, cmpf_apply, top_apply, broadcast_apply, Ideal.cmpf_def]
  by_cases h : (v (ix3 c g.1 g.2) : EReal) = ⨆ g : Fin 64 × Fin 128, (v (ix3 c g.1 g.2) : EReal)
  · rw [if_pos h]; simp only [Ideal.cmp]; rw [← h]; simp [select_one]
  · rw [if_neg h]; simp only [Ideal.cmp]; simp [h, select_zero]

/-- One round, read on one series, overwrites the entries that equal its maximum. -/
theorem round_fun (v : FVec Ideal S64x64x128 .f32) (c : Fin 64) :
    (fun g : Fin 64 × Fin 128 => (round v (ix3 c g.1 g.2) : EReal)) = Cert.Select.strip minusOne (fun h => v (ix3 c h.1 h.2)) :=
  funext (round_apply v c)

/-- Any number of rounds, read on one series. -/
theorem rounds_fun (n : ℕ) (v : FVec Ideal S64x64x128 .f32) (c : Fin 64) :
    (fun g : Fin 64 × Fin 128 => ((round^[n] v) (ix3 c g.1 g.2) : EReal)) = (Cert.Select.strip minusOne)^[n] (fun h => v (ix3 c h.1 h.2)) := by
  induction n generalizing v with
  | zero => rfl
  | succ n ih => rw [Function.iterate_succ_apply, Function.iterate_succ_apply, ih, round_fun]

end Cert.Block
-- ==== Proof.Block.lean ====
/- What one block of the kernel leaves in its output window: for each series, the inverse transform of its spectrum weighted
   by the weights kept. -/
module

public import proofs.«01_k».proof.Proof.Gen.KernelIdeal.Frame
public import proofs.«01_k».proof.Proof.Inverse
public import proofs.«01_k».proof.Proof.Rounds

@[expose] public section

set_option maxRecDepth 16384

noncomputable section

namespace Cert.Block

open Idealize.ShloMosaic Idealize.ShloMosaic.ValueIdx Cert.KernelIdeal Cert.KernelIdeal.Gen Cert.Fourier Cert.Layout
open scoped BigOperators

/-- The values a series' selection starts from: squared amplitudes, −1 at the frequencies of weight zero. -/
def cur (W : Fin 64 → Fin 128 → ℝ) (X : Fin 128 → Fin 64 → ℝ) (g : Fin 64 × Fin 128) : EReal :=
  if 0 < W g.1 g.2 then ((power X g.1 g.2 : ℝ) : EReal) else ((-1 : ℝ) : EReal)

/-- The maximum left after 31 rounds. -/
def threshold (W : Fin 64 → Fin 128 → ℝ) (X : Fin 128 → Fin 64 → ℝ) : EReal :=
  ⨆ g, ((Cert.Select.strip ((-1 : ℝ) : EReal))^[31] (cur W X)) g

open scoped Classical in
/-- The weights kept: those of the frequencies whose squared amplitude reaches the threshold. -/
def kept (W : Fin 64 → Fin 128 → ℝ) (X : Fin 128 → Fin 64 → ℝ) (f1 : Fin 64) (f2 : Fin 128) : ℝ :=
  if threshold W X ≤ ((power X f1 f2 : ℝ) : EReal) then W f1 f2 else 0

/-- What the kernel computes of a series: the inverse transform of its kept spectrum. -/
def filtered (W : Fin 64 → Fin 128 → ℝ) (X : Fin 128 → Fin 64 → ℝ) (t2 : Fin 128) (t1 : Fin 64) : ℝ :=
  yRe (fun a b => kept W X a b * sRe X a b) (fun a b => kept W X a b * sIm X a b) t2 t1

/-- The float word of 0 is the real 0. -/
theorem zero_word : (Scalar.ofBits (F := Ideal) .f32 0x00000000#32 : EReal) = ((0 : ℝ) : EReal) := Ideal.ofBits_zero_f32

variable (W : Fin 64 → Fin 128 → ℝ) (X : Fin 64 → Fin 128 → Fin 64 → ℝ) (p : FVec Ideal S64x64x128 .f32) (w : FVec Ideal S1x64x128 .f32)
  (hw : ∀ (f1 : Fin 64) (f2 : Fin 128), w (ix3 0 f1 f2) = ((W f1 f2 : ℝ) : EReal))
  (hp : ∀ c f1 f2, p (ix3 c f1 f2) = ((power (X c) f1 f2 : ℝ) : EReal))

include hw hp in
/-- The selection's first array, read on a series. -/
theorem start_apply (c : Fin 64) (g : Fin 64 × Fin 128) : start p w (ix3 c g.1 g.2) = cur W (X c) g := by
  unfold start cur
  rw [select_apply, bcast_stack (by decide) (by decide), shapeCast_self, cmpf_apply, broadcast_apply, broadcast_apply, hw, hp,
    Ideal.cmpf_def]
  show Scalar.select (Ideal.cmp .ogt _ _) _ (minusOne : EReal) = _
  rw [minusOne_eq, zero_word]
  by_cases h : 0 < W g.1 g.2
  · rw [if_pos h]; simp only [Ideal.cmp]
    rw [decide_eq_true (EReal.coe_lt_coe_iff.2 h)]; rfl
  · rw [if_neg h]; simp only [Ideal.cmp]
    rw [decide_eq_false (fun h' => h (EReal.coe_lt_coe_iff.1 h'))]; rfl

include hw hp in
/-- The threshold the kernel compares with. -/
theorem thresh_apply (c f1 : Fin 64) (f2 : Fin 128) : top (round^[31] (start p w)) (ix3 c f1 f2) = threshold W (X c) := by
  rw [top_apply]
  unfold threshold
  refine iSup_congr fun g => ?_
  rw [← minusOne_eq]
  rw [← (funext (start_apply W X p w hw hp c) : (fun g : Fin 64 × Fin 128 => (start p w (ix3 c g.1 g.2) : EReal)) = cur W (X c))]
  exact congrFun (rounds_fun 31 (start p w) c) g

include hw hp in
/-- The weights the kernel keeps. -/
theorem keep_apply (c f1 : Fin 64) (f2 : Fin 128) :
    k0_pay27 (F := Ideal) w p (round^[30] (start p w)) (top (round^[30] (start p w))) (ix3 c f1 f2) = ((kept W (X c) f1 f2 : ℝ) : EReal) := by
  rw [pay27_eq, ← Function.iterate_succ_apply' round]
  unfold kept
  rw [select_apply, cmpf_apply, thresh_apply W X p w hw hp, bcast_stack (by decide) (by decide), shapeCast_self, broadcast_apply, hw, hp,
    Ideal.cmpf_def]
  show Scalar.select (Ideal.cmp .oge _ _) _ _ = _
  rw [zero_word]
  by_cases h : threshold W (X c) ≤ ((power (X c) f1 f2 : ℝ) : EReal)
  · rw [if_pos h]; simp only [Ideal.cmp]
    rw [decide_eq_true h]; rfl
  · rw [if_neg h]; simp only [Ideal.cmp]
    rw [decide_eq_false h]; rfl

/-- Three calls written out are the third iterate. -/
theorem three {α : Type} (f : α → α) (v : α) : f (f (f v)) = f^[3] v := rfl
/-- Five calls written out are the fifth iterate. -/
theorem five {α : Type} (f : α → α) (v : α) : f (f (f (f (f v)))) = f^[5] v := rfl
/-- Six calls written out are the sixth iterate. -/
theorem six {α : Type} (f : α → α) (v : α) : f (f (f (f (f (f v))))) = f^[6] v := rfl

/-- The block's result, from what its windows hold. -/
theorem out_apply (x0 : FVec Ideal S1x64x128x64 .f32) (x1 x2 : FVec Ideal S64x64 .f32) (x3 x4 : FVec Ideal S128x128 .f32)
    (x5 x6 : FVec Ideal S1x128x64 .f32) (x7 x8 : FVec Ideal S1x64x128 .f32) (x9 x10 : FVec Ideal S64x64 .f32) (x11 : FVec Ideal S1x64x128 .f32)
    (hx : ∀ c t2 t1, x0 (ix4 0 c t2 t1) = ((X c t2 t1 : ℝ) : EReal))
    (h1 : ∀ k j : Fin 64, x1 (ix2 k j) = ((cosN 64 (k.val * j.val) : ℝ) : EReal))
    (h2 : ∀ k j : Fin 64, x2 (ix2 k j) = ((sinN 64 (k.val * j.val) : ℝ) : EReal))
    (h3 : ∀ k j : Fin 128, x3 (ix2 k j) = ((cosN 128 (k.val * j.val) : ℝ) : EReal))
    (h4 : ∀ k j : Fin 128, x4 (ix2 k j) = ((sinN 128 (k.val * j.val) : ℝ) : EReal))
    (h5 : ∀ (t2 : Fin 128) (f1 : Fin 64), x5 (ix3 0 t2 f1) = ((cosN 8192 (t2.val * f1.val) : ℝ) : EReal))
    (h6 : ∀ (t2 : Fin 128) (f1 : Fin 64), x6 (ix3 0 t2 f1) = ((sinN 8192 (t2.val * f1.val) : ℝ) : EReal))
    (h7 : ∀ (f1 : Fin 64) (t2 : Fin 128), x7 (ix3 0 f1 t2) = ((cosN 8192 (t2.val * f1.val) : ℝ) : EReal))
    (h8 : ∀ (f1 : Fin 64) (t2 : Fin 128), x8 (ix3 0 f1 t2) = ((sinN 8192 (t2.val * f1.val) : ℝ) : EReal))
    (h9 : ∀ k j : Fin 64, x9 (ix2 k j) = ((cosN 64 (k.val * j.val) / 8192 : ℝ) : EReal))
    (h10 : ∀ k j : Fin 64, x10 (ix2 k j) = ((sinN 64 (k.val * j.val) / 8192 : ℝ) : EReal))
    (h11 : ∀ (f1 : Fin 64) (f2 : Fin 128), x11 (ix3 0 f1 f2) = ((W f1 f2 : ℝ) : EReal))
    (c : Fin 64) (t2 : Fin 128) (t1 : Fin 64) :
    out0_12 (F := Ideal) x0 x1 x2 x3 x4 x5 x6 x7 x8 x9 x10 x11 (ix4 0 c t2 t1) = ((filtered W (X c) t2 t1 : ℝ) : EReal) := by
  have z2 : (![0, 0] : Fin 2 → ℕ) = fun _ => 0 := by decide
  have z3 : (![0, 0, 0] : Fin 3 → ℕ) = fun _ => 0 := by decide
  have z4 : (![0, 0, 0, 0] : Fin 4 → ℕ) = fun _ => 0 := by decide
  have l0 (x : FVec Ideal S64x64 .f32) : View.ld (Val := Elt Ideal) (e' := .f32) x r0_0 = x := View.ld_unit_zero (S := S64x64) (Val := Elt Ideal) (e := .f32) z2 inb_S64x64_S64x64_0_0 x
  have l1 (x : FVec Ideal S128x128 .f32) : View.ld (Val := Elt Ideal) (e' := .f32) x r0_1 = x := View.ld_unit_zero (S := S128x128) (Val := Elt Ideal) (e := .f32) z2 inb_S128x128_S128x128_0_0 x
  have l2 (x : FVec Ideal S1x64x128x64 .f32) : View.ld (Val := Elt Ideal) (e' := .f32) x r0_2 = x := View.ld_unit_zero (S := S1x64x128x64) (Val := Elt Ideal) (e := .f32) z4 inb_S1x64x128x64_S1x64x128x64_0_0_0_0 x
  have l3 (x : FVec Ideal S1x128x64 .f32) : View.ld (Val := Elt Ideal) (e' := .f32) x r0_3 = x := View.ld_unit_zero (S := S1x128x64) (Val := Elt Ideal) (e := .f32) z3 inb_S1x128x64_S1x128x64_0_0_0 x
  have l4 (x : FVec Ideal S1x64x128 .f32) : View.ld (Val := Elt Ideal) (e' := .f32) x r0_4 = x := View.ld_unit_zero (S := S1x64x128) (Val := Elt Ideal) (e := .f32) z3 inb_S1x64x128_S1x64x128_0_0_0 x
  have c2 (v : FVec Ideal S1x64x128x64 .f32) : View.canon (Val := Elt Ideal) (e := .f32) [⟨r0_2, v⟩] = v := View.canon_unit_zero (S := S1x64x128x64) (Val := Elt Ideal) (e := .f32) z4 inb_S1x64x128x64_S1x64x128x64_0_0_0_0 v
  have it (m n : ℕ) (v : FVec Ideal S64x64x128 .f32) : round^[m] (round^[n] v) = round^[m + n] v := (Function.iterate_add_apply round m n v).symm
  unfold out0_12
  rw [c2]
  simp only [l0, l4]
  unfold filtered
  have e44 : k0_pay44 (F := Ideal) x0 x1 x2 x3 x4 x5 x6 x7 x8 x9 x10 x11
      = k0_pay14 (k0_pay2 x3) (k0_pay3 x4) (k0_pay9 x1 x2 x0 x5 x6) (k0_pay10 x1 x2 x0 x5 x6) (k0_pay11 x1 x2 x3 x0 x5 x6) zeroAcc := by
    unfold k0_pay44 k0_pay37 k0_pay38 k0_pay39 k0_pay40 k0_pay41 k0_pay36
    simp only [l0, l1, l2, l3]
  have hp := pay14_apply X x1 x2 x3 x4 x0 x5 x6 hx h1 h2 h3 h4 h5 h6
  rw [← e44] at hp
  have e45 : k0_pay45 (F := Ideal) x0 x1 x2 x3 x4 x5 x6 x7 x8 x9 x10 x11
      = round^[3] (start (k0_pay44 x0 x1 x2 x3 x4 x5 x6 x7 x8 x9 x10 x11) x11) := by
    unfold k0_pay45
    rw [pay15_eq, l4, three round]; rfl
  have e46 : k0_pay46 (F := Ideal) x0 x1 x2 x3 x4 x5 x6 x7 x8 x9 x10 x11 = half (k0_pay45 x0 x1 x2 x3 x4 x5 x6 x7 x8 x9 x10 x11) := rfl
  have e47 : k0_pay47 (F := Ideal) x0 x1 x2 x3 x4 x5 x6 x7 x8 x9 x10 x11
      = round^[5] (k0_pay45 x0 x1 x2 x3 x4 x5 x6 x7 x8 x9 x10 x11) := by
    unfold k0_pay47; rw [e46, pay17_eq, five round]
  have e48 : k0_pay48 (F := Ideal) x0 x1 x2 x3 x4 x5 x6 x7 x8 x9 x10 x11 = mask (k0_pay47 x0 x1 x2 x3 x4 x5 x6 x7 x8 x9 x10 x11) := rfl
  have e49 : k0_pay49 (F := Ideal) x0 x1 x2 x3 x4 x5 x6 x7 x8 x9 x10 x11
      = round^[6] (k0_pay47 x0 x1 x2 x3 x4 x5 x6 x7 x8 x9 x10 x11) := by
    unfold k0_pay49; rw [e48, pay19_eq, six round]
  have e50 : k0_pay50 (F := Ideal) x0 x1 x2 x3 x4 x5 x6 x7 x8 x9 x10 x11 = half (k0_pay49 x0 x1 x2 x3 x4 x5 x6 x7 x8 x9 x10 x11) := rfl
  have e51 : k0_pay51 (F := Ideal) x0 x1 x2 x3 x4 x5 x6 x7 x8 x9 x10 x11
      = round^[5] (k0_pay49 x0 x1 x2 x3 x4 x5 x6 x7 x8 x9 x10 x11) := by
    unfold k0_pay51; rw [e50, pay21_eq, five round]
  have e52 : k0_pay52 (F := Ideal) x0 x1 x2 x3 x4 x5 x6 x7 x8 x9 x10 x11 = mask (k0_pay51 x0 x1 x2 x3 x4 x5 x6 x7 x8 x9 x10 x11) := rfl
  have e53 : k0_pay53 (F := Ideal) x0 x1 x2 x3 x4 x5 x6 x7 x8 x9 x10 x11
      = round^[6] (k0_pay51 x0 x1 x2 x3 x4 x5 x6 x7 x8 x9 x10 x11) := by
    unfold k0_pay53; rw [e52, pay23_eq, six round]
  have e54 : k0_pay54 (F := Ideal) x0 x1 x2 x3 x4 x5 x6 x7 x8 x9 x10 x11 = rowMax (k0_pay53 x0 x1 x2 x3 x4 x5 x6 x7 x8 x9 x10 x11) := rfl
  have e55 : k0_pay55 (F := Ideal) x0 x1 x2 x3 x4 x5 x6 x7 x8 x9 x10 x11
      = round^[5] (k0_pay53 x0 x1 x2 x3 x4 x5 x6 x7 x8 x9 x10 x11) := by
    unfold k0_pay55; rw [e54, pay25_eq, five round]
  have e56 : k0_pay56 (F := Ideal) x0 x1 x2 x3 x4 x5 x6 x7 x8 x9 x10 x11 = top (k0_pay55 x0 x1 x2 x3 x4 x5 x6 x7 x8 x9 x10 x11) := rfl
  have e30 : k0_pay55 (F := Ideal) x0 x1 x2 x3 x4 x5 x6 x7 x8 x9 x10 x11
      = round^[30] (start (k0_pay44 x0 x1 x2 x3 x4 x5 x6 x7 x8 x9 x10 x11) x11) := by
    rw [e55, e53, e51, e49, e47, e45]
    rw [it, it, it, it, it]
  rw [e56, e30]
  refine pay1_apply (fun c => sRe (X c)) (fun c => sIm (X c)) (fun c => kept W (X c)) _ _ _ _ _ _ _ _ _ _ _ _ ?_ ?_ ?_ ?_ ?_ h7 h8 h9 h10 c t2 t1
  · intro k j; unfold k0_pay37 k0_pay2; rw [l1, shapeCast_self, h3]
  · intro k j; unfold k0_pay38 k0_pay3; rw [l1, shapeCast_self, h4]
  · intro c f1 f2
    unfold k0_pay42 k0_pay38 k0_pay40 k0_pay41 k0_pay36
    simp only [l0, l1, l2, l3]
    exact pay12_apply X x1 x2 x3 x4 x0 x5 x6 hx h1 h2 h3 h4 h5 h6 c f1 f2
  · intro c f1 f2
    unfold k0_pay43 k0_pay37 k0_pay38 k0_pay39 k0_pay40
    simp only [l0, l1, l2, l3]
    exact pay13_apply X x1 x2 x3 x4 x0 x5 x6 hx h1 h2 h3 h4 h5 h6 c f1 f2
  · exact keep_apply W X _ x11 h11 hp

end Cert.Block
-- ==== Proof.Angles.lean ====
/- Angles and their cosines and sines as the host computes them, read at an index over the extended reals. -/
module

public import Idealize.ShloMosaic.Lib.Affine
public import Idealize.ShloMosaic.Lib.WordCmp
public import proofs.«01_k».proof.Proof.Layout

@[expose] public section

set_option maxRecDepth 16384

noncomputable section

namespace Cert.Tables

open Idealize.ShloMosaic Idealize.ShloMosaic.ValueIdx Cert.Fourier Cert.Layout
open scoped BigOperators

/-- The product of two small indices reduced modulo `N`, as words, reads as that number. -/
theorem steps_toInt (i j N : ℕ) (hN : 0 < N) (hN' : N < 2 ^ 30) (hij : i * j < 2 ^ 30) :
    (IntOp.remsi .host (IntOp.muli (BitVec.ofNat 32 i) (BitVec.ofNat 32 j)) (BitVec.ofNat 32 N)).toInt = ((i * j % N : ℕ) : ℤ) := by
  have hm : IntOp.muli (BitVec.ofNat 32 i) (BitVec.ofNat 32 j) = BitVec.ofNat 32 (i * j) := WordCmp.muli_ofNat i j
  rw [hm]
  have hx : (BitVec.ofNat 32 (i * j)).toNat = i * j := by
    rw [BitVec.toNat_ofNat]; exact Nat.mod_eq_of_lt (by omega)
  have h := IntOp.toNat_remsi .host (x := BitVec.ofNat 32 (i * j)) (by rw [hx]; omega) N hN (by omega)
  rw [hx] at h
  have hlt : i * j % N < N := Nat.mod_lt _ hN
  rw [BitVec.toInt_eq_toNat_of_lt (by rw [h]; omega), h]

/-- The float word of -1 is the real -1. -/
theorem minus_one_word : (FloatOps.ofBits (F := Ideal) .f32 0xBF800000#32 : EReal) = ((-1 : ℝ) : EReal) := by
  show Ideal.ofBits .f32 0xBF800000#32 = _
  simp [Ideal.ofBits, Ideal.ieee, -EReal.coe_mul]; norm_num
/-- The float word of 2 is the real 2. -/
theorem two_word : (FloatOps.ofBits (F := Ideal) .f32 0x40000000#32 : EReal) = ((2 : ℝ) : EReal) := by
  show Ideal.ofBits .f32 0x40000000#32 = _
  simp [Ideal.ofBits, Ideal.ieee, -EReal.coe_mul]; norm_num
/-- The float word of 64 is the real 64. -/
theorem word_64 : (FloatOps.ofBits (F := Ideal) .f32 0x42800000#32 : EReal) = (((64 : ℕ) : ℝ) : EReal) := by
  show Ideal.ofBits .f32 0x42800000#32 = _
  simp [Ideal.ofBits, Ideal.ieee, -EReal.coe_mul]; norm_num
/-- The float word of 128 is the real 128. -/
theorem word_128 : (FloatOps.ofBits (F := Ideal) .f32 0x43000000#32 : EReal) = (((128 : ℕ) : ℝ) : EReal) := by
  show Ideal.ofBits .f32 0x43000000#32 = _
  simp [Ideal.ofBits, Ideal.ieee, -EReal.coe_mul]; norm_num
/-- The float word of 8192 is the real 8192. -/
theorem word_8192 : (FloatOps.ofBits (F := Ideal) .f32 0x46000000#32 : EReal) = (((8192 : ℕ) : ℝ) : EReal) := by
  show Ideal.ofBits .f32 0x46000000#32 = _
  simp [Ideal.ofBits, Ideal.ieee, -EReal.coe_mul]; norm_num

/-- The host's arc cosine of −1 is π. -/
theorem acos_minus_one : Ideal.acos ((-1 : ℝ) : EReal) = ((Real.pi : ℝ) : EReal) := by
  rw [Ideal.acos_coe, if_pos (by norm_num), Real.arccos_neg_one]

/-- A quotient of real numbers. -/
theorem div_real (x y : ℝ) (h : y ≠ 0) : Ideal.div (x : EReal) (y : EReal) = ((x / y : ℝ) : EReal) := by
  rw [Ideal.div_coe h, ← EReal.coe_mul]; congr 1; ring

/-- A vector laid along the first axis. -/
theorem along0 {α : Type} {A B : ℕ} (hA : A ≠ 1) (x : (⟨1, ![A]⟩ : Shape).Idx → α) (h1 : (⟨1, ![A]⟩ : Shape).BroadcastsInDim ⟨2, ![A, 1]⟩ ![0])
    (h3 : (⟨2, ![A, 1]⟩ : Shape).BroadcastsInDim ⟨2, ![A, B]⟩ ![0, 1]) (i : Fin A) (j : Fin B) :
    broadcastInDim ⟨2, ![A, B]⟩ ![0, 1] h3 (broadcastInDim ⟨2, ![A, 1]⟩ ![0] h1 x) (ix2 i j) = x (ix1 i) := by
  refine (broadcastInDim_apply _ h3 _ _ (ix2 i 0) fun a => ?_).trans (broadcastInDim_apply _ h1 _ _ (ix1 i) fun a => ?_)
  · match a with
    | ⟨0, _⟩ => exact (if_neg hA).symm
    | ⟨1, _⟩ => exact (if_pos rfl).symm
  · match a with
    | ⟨0, _⟩ => exact (if_neg hA).symm

/-- A vector laid along the second axis. -/
theorem along1 {α : Type} {A B : ℕ} (hB : B ≠ 1) (x : (⟨1, ![B]⟩ : Shape).Idx → α) (h2 : (⟨1, ![B]⟩ : Shape).BroadcastsInDim ⟨2, ![1, B]⟩ ![1])
    (h4 : (⟨2, ![1, B]⟩ : Shape).BroadcastsInDim ⟨2, ![A, B]⟩ ![0, 1]) (i : Fin A) (j : Fin B) :
    broadcastInDim ⟨2, ![A, B]⟩ ![0, 1] h4 (broadcastInDim ⟨2, ![1, B]⟩ ![1] h2 x) (ix2 i j) = x (ix1 j) := by
  refine (broadcastInDim_apply _ h4 _ _ (ix2 0 j) fun a => ?_).trans (broadcastInDim_apply _ h2 _ _ (ix1 j) fun a => ?_)
  · match a with
    | ⟨0, _⟩ => exact (if_pos rfl).symm
    | ⟨1, _⟩ => exact (if_neg hB).symm
  · match a with
    | ⟨0, _⟩ => exact (if_neg hB).symm

/-- A scalar laid over an array. -/
theorem scalar_over {α : Type} {t : Shape} (x : (⟨0, ![]⟩ : Shape).Idx → α) (h : (⟨0, ![]⟩ : Shape).BroadcastsInDim t ![]) (j : t.Idx) :
    broadcastInDim t ![] h x j = x ix0 :=
  broadcastInDim_apply _ h _ _ _ fun a => a.elim0

/-- The angles `2π (i j mod n) / d` the host builds over a grid of `A × B` indices. -/
def angles (A B : ℕ) (h1 : (⟨1, ![A]⟩ : Shape).BroadcastsInDim ⟨2, ![A, 1]⟩ ![0]) (h2 : (⟨1, ![B]⟩ : Shape).BroadcastsInDim ⟨2, ![1, B]⟩ ![1])
    (h3 : (⟨2, ![A, 1]⟩ : Shape).BroadcastsInDim ⟨2, ![A, B]⟩ ![0, 1]) (h4 : (⟨2, ![1, B]⟩ : Shape).BroadcastsInDim ⟨2, ![A, B]⟩ ![0, 1])
    (h0 : (⟨0, ![]⟩ : Shape).BroadcastsInDim ⟨2, ![A, B]⟩ ![]) (n d : BitVec 32) : FVec Ideal ⟨2, ![A, B]⟩ .f32 :=
  Host.divf (mulf (broadcastInDim ⟨2, ![A, B]⟩ ![] h0 (mulf (constant ⟨0, ![]⟩ .f32 0x40000000#32) (Host.acos (constant ⟨0, ![]⟩ .f32 0xBF800000#32))))
      (sitofp .f32 (Host.remsi (muli (broadcastInDim ⟨2, ![A, B]⟩ ![0, 1] h3 (broadcastInDim ⟨2, ![A, 1]⟩ ![0] h1 (iotaInDim ⟨1, ![A]⟩ 32 0)))
          (broadcastInDim ⟨2, ![A, B]⟩ ![0, 1] h4 (broadcastInDim ⟨2, ![1, B]⟩ ![1] h2 (iotaInDim ⟨1, ![B]⟩ 32 0))))
        (broadcastInDim ⟨2, ![A, B]⟩ ![] h0 (constantI ⟨0, ![]⟩ 32 n)))))
    (broadcastInDim ⟨2, ![A, B]⟩ ![] h0 (constant ⟨0, ![]⟩ .f32 d))

variable {A B : ℕ} (h1 : (⟨1, ![A]⟩ : Shape).BroadcastsInDim ⟨2, ![A, 1]⟩ ![0]) (h2 : (⟨1, ![B]⟩ : Shape).BroadcastsInDim ⟨2, ![1, B]⟩ ![1])
  (h3 : (⟨2, ![A, 1]⟩ : Shape).BroadcastsInDim ⟨2, ![A, B]⟩ ![0, 1]) (h4 : (⟨2, ![1, B]⟩ : Shape).BroadcastsInDim ⟨2, ![A, B]⟩ ![0, 1])
  (h0 : (⟨0, ![]⟩ : Shape).BroadcastsInDim ⟨2, ![A, B]⟩ ![])

/-- The host's angles are the real ones. -/
theorem angles_apply (hA : A ≠ 1) (hB : B ≠ 1) (hAB : A * B < 2 ^ 30) (N : ℕ) (hN : 0 < N) (hN' : N < 2 ^ 30) (d : BitVec 32)
    (hd : (FloatOps.ofBits (F := Ideal) .f32 d : EReal) = ((N : ℝ) : EReal)) (i : Fin A) (j : Fin B) :
    angles A B h1 h2 h3 h4 h0 (BitVec.ofNat 32 N) d (ix2 i j)
      = ((2 * Real.pi * ((i.val * j.val % N : ℕ) : ℝ) / (N : ℝ) : ℝ) : EReal) := by
  unfold angles
  have e0 := scalar_over (constant ⟨0, ![]⟩ .f32 d : FVec Ideal ⟨0, ![]⟩ .f32) h0 (ix2 i j)
  have e1 := scalar_over (mulf (constant ⟨0, ![]⟩ .f32 0x40000000#32) (Host.acos (constant ⟨0, ![]⟩ .f32 0xBF800000#32)) : FVec Ideal ⟨0, ![]⟩ .f32) h0 (ix2 i j)
  have e2 := scalar_over (constantI ⟨0, ![]⟩ 32 (BitVec.ofNat 32 N)) h0 (ix2 i j)
  have e3 := along0 hA (iotaInDim ⟨1, ![A]⟩ 32 0) h1 h3 i j
  have e4 := along1 hB (iotaInDim ⟨1, ![B]⟩ 32 0) h2 h4 i j
  refine (congrArg₂ (fun a b => Ideal.div a b) (congrArg₂ (fun a b : EReal => a * b) e1 (congrArg (fun z : BitVec 32 => ((z.toInt : ℝ) : EReal))
    (congrArg₂ (fun a b => IntOp.remsi .host a b) (congrArg₂ (fun a b => IntOp.muli a b) e3 e4) e2))) e0).trans ?_
  show Ideal.div (((FloatOps.ofBits (F := Ideal) .f32 0x40000000#32 : EReal) * Ideal.acos (FloatOps.ofBits (F := Ideal) .f32 0xBF800000#32 : EReal))
    * (((IntOp.remsi .host (IntOp.muli (BitVec.ofNat 32 i.val) (BitVec.ofNat 32 j.val)) (BitVec.ofNat 32 N)).toInt : ℝ) : EReal)) (FloatOps.ofBits (F := Ideal) .f32 d : EReal) = _
  have hij : i.val * j.val < 2 ^ 30 := lt_of_le_of_lt (Nat.mul_le_mul i.isLt.le j.isLt.le) hAB
  rw [two_word, minus_one_word, acos_minus_one, hd, steps_toInt _ _ N hN hN' hij, ← EReal.coe_mul, ← EReal.coe_mul,
    div_real _ _ (by exact_mod_cast hN.ne')]
  norm_cast

/-- The cosine table. -/
theorem cos_angles_apply (hA : A ≠ 1) (hB : B ≠ 1) (hAB : A * B < 2 ^ 30) (N : ℕ) (hN : 0 < N) (hN' : N < 2 ^ 30) (d : BitVec 32)
    (hd : (FloatOps.ofBits (F := Ideal) .f32 d : EReal) = ((N : ℝ) : EReal)) (i : Fin A) (j : Fin B) :
    (Host.cos (angles A B h1 h2 h3 h4 h0 (BitVec.ofNat 32 N) d) (ix2 i j) : EReal) = ((cosN N (i.val * j.val) : ℝ) : EReal) := by
  show Ideal.cos (angles A B h1 h2 h3 h4 h0 (BitVec.ofNat 32 N) d (ix2 i j)) = _
  rw [angles_apply h1 h2 h3 h4 h0 hA hB hAB N hN hN' d hd, Ideal.cos_coe]
  rfl

/-- The sine table. -/
theorem sin_angles_apply (hA : A ≠ 1) (hB : B ≠ 1) (hAB : A * B < 2 ^ 30) (N : ℕ) (hN : 0 < N) (hN' : N < 2 ^ 30) (d : BitVec 32)
    (hd : (FloatOps.ofBits (F := Ideal) .f32 d : EReal) = ((N : ℝ) : EReal)) (i : Fin A) (j : Fin B) :
    (Host.sin (angles A B h1 h2 h3 h4 h0 (BitVec.ofNat 32 N) d) (ix2 i j) : EReal) = ((sinN N (i.val * j.val) : ℝ) : EReal) := by
  show Ideal.sin (angles A B h1 h2 h3 h4 h0 (BitVec.ofNat 32 N) d (ix2 i j)) = _
  rw [angles_apply h1 h2 h3 h4 h0 hA hB hAB N hN hN' d hd, Ideal.sin_coe]
  rfl

end Cert.Tables
-- ==== Proof.HostTables.lean ====
/- The tables the kernel's program builds before its launch, read at an index: cosines and sines of whole steps around a
   circle, and the input laid out for the kernel. -/
module

public import proofs.«01_k».proof.Proof.Gen.KernelIdeal.Frame
public import proofs.«01_k».proof.Proof.Angles
public import Idealize.ShloMosaic.Lib.StableHlo.RunRead

@[expose] public section

set_option maxRecDepth 16384

noncomputable section

namespace Cert.Tables

open Idealize.ShloMosaic Idealize.ShloMosaic.ValueIdx Cert.KernelIdeal Cert.KernelIdeal.Gen Cert.Fourier Cert.Layout
open Idealize.SL.Sem Idealize.ShloMosaic.TcCoe
open scoped BigOperators

variable (m : (ℓ : Loc nD τ sig) → Buf (Elt Ideal) ℓ)

/-- The program's argument, as launched. -/
abbrev input (c : Dev nD) : FVec Ideal S64x8192x64 .f32 := m ((c : Thread nD τ).loc main_arg0)

set_option maxHeartbeats 2000000 in
/-- What the program holds at the launch as the cosines of the 64-point transform, as an array. -/
theorem V_cos1 (c : Dev nD) : V m c main_call0_v21 = Host.cos (angles 64 64 bcast_S64_S64x1_0 bcast_S64_S1x64_1 bcast_S64x1_S64x64_0_1 bcast_S1x64_S64x64_0_1 bcast_S_S64x64 64#32 0x42800000#32) := by
  simp only [V, V0, List.flatten_cons, List.flatten_nil, List.append_nil]
  after_reads_simp
  rfl

set_option maxHeartbeats 2000000 in
/-- What the program holds at the launch as the sines of the 64-point transform, as an array. -/
theorem V_sin1 (c : Dev nD) : V m c main_call0_v37 = Host.sin (angles 64 64 bcast_S64_S64x1_0 bcast_S64_S1x64_1 bcast_S64x1_S64x64_0_1 bcast_S1x64_S64x64_0_1 bcast_S_S64x64 64#32 0x42800000#32) := by
  simp only [V, V0, List.flatten_cons, List.flatten_nil, List.append_nil]
  after_reads_simp
  rfl

set_option maxHeartbeats 2000000 in
/-- What the program holds at the launch as the cosines of the 128-point transform, as an array. -/
theorem V_cos2 (c : Dev nD) : V m c main_call0_v53 = Host.cos (angles 128 128 bcast_S128_S128x1_0 bcast_S128_S1x128_1 bcast_S128x1_S128x128_0_1 bcast_S1x128_S128x128_0_1 bcast_S_S128x128 128#32 0x43000000#32) := by
  simp only [V, V0, List.flatten_cons, List.flatten_nil, List.append_nil]
  after_reads_simp
  rfl

set_option maxHeartbeats 2000000 in
/-- What the program holds at the launch as the sines of the 128-point transform, as an array. -/
theorem V_sin2 (c : Dev nD) : V m c main_call0_v69 = Host.sin (angles 128 128 bcast_S128_S128x1_0 bcast_S128_S1x128_1 bcast_S128x1_S128x128_0_1 bcast_S1x128_S128x128_0_1 bcast_S_S128x128 128#32 0x43000000#32) := by
  simp only [V, V0, List.flatten_cons, List.flatten_nil, List.append_nil]
  after_reads_simp
  rfl

/-- A table with a leading unit axis. -/
def lead (x : FVec Ideal S128x64 .f32) : FVec Ideal S1x128x64 .f32 := broadcastInDim S1x128x64 ![1, 2] bcast_S128x64_S1x128x64_1_2 x

set_option maxHeartbeats 2000000 in
/-- What the program holds at the launch as the twiddle cosines, as an array. -/
theorem V_twc (c : Dev nD) : V m c main_call0_v86 = lead (Host.cos (angles 128 64 bcast_S128_S128x1_0 bcast_S64_S1x64_1 bcast_S128x1_S128x64_0_1 bcast_S1x64_S128x64_0_1 bcast_S_S128x64 8192#32 0x46000000#32)) := by
  simp only [V, V0, List.flatten_cons, List.flatten_nil, List.append_nil]
  after_reads_simp
  rfl

set_option maxHeartbeats 2000000 in
/-- What the program holds at the launch as the twiddle sines, as an array. -/
theorem V_tws (c : Dev nD) : V m c main_call0_v88 = lead (Host.sin (angles 128 64 bcast_S128_S128x1_0 bcast_S64_S1x64_1 bcast_S128x1_S128x64_0_1 bcast_S1x64_S128x64_0_1 bcast_S_S128x64 8192#32 0x46000000#32)) := by
  simp only [V, V0, List.flatten_cons, List.flatten_nil, List.append_nil]
  after_reads_simp
  rfl

set_option maxHeartbeats 2000000 in
/-- What the program holds at the launch as the transposed twiddle cosines, as an array. -/
theorem V_itwc (c : Dev nD) : V m c main_call0_v89 = transpose S1x64x128 [0, 2, 1] (lead (Host.cos (angles 128 64 bcast_S128_S128x1_0 bcast_S64_S1x64_1 bcast_S128x1_S128x64_0_1 bcast_S1x64_S128x64_0_1 bcast_S_S128x64 8192#32 0x46000000#32))) transposes_S1x128x64_S1x64x128_0_2_1 := by
  simp only [V, V0, List.flatten_cons, List.flatten_nil, List.append_nil]
  after_reads_simp
  rfl

set_option maxHeartbeats 2000000 in
/-- What the program holds at the launch as the transposed twiddle sines, as an array. -/
theorem V_itws (c : Dev nD) : V m c main_call0_v90 = transpose S1x64x128 [0, 2, 1] (lead (Host.sin (angles 128 64 bcast_S128_S128x1_0 bcast_S64_S1x64_1 bcast_S128x1_S128x64_0_1 bcast_S1x64_S128x64_0_1 bcast_S_S128x64 8192#32 0x46000000#32))) transposes_S1x128x64_S1x64x128_0_2_1 := by
  simp only [V, V0, List.flatten_cons, List.flatten_nil, List.append_nil]
  after_reads_simp
  rfl

set_option maxHeartbeats 2000000 in
/-- What the program holds at the launch as the cosines of the inverse 64-point transform, over 8192, as an array. -/
theorem V_icos1 (c : Dev nD) : V m c main_call0_v92 = Host.divf (Host.cos (angles 64 64 bcast_S64_S64x1_0 bcast_S64_S1x64_1 bcast_S64x1_S64x64_0_1 bcast_S1x64_S64x64_0_1 bcast_S_S64x64 64#32 0x42800000#32)) (broadcastInDim S64x64 ![] bcast_S_S64x64 (constant S_ .f32 0x46000000#32)) := by
  simp only [V, V0, List.flatten_cons, List.flatten_nil, List.append_nil]
  after_reads_simp
  rfl

set_option maxHeartbeats 2000000 in
/-- What the program holds at the launch as the sines of the inverse 64-point transform, over 8192, as an array. -/
theorem V_isin1 (c : Dev nD) : V m c main_call0_v94 = Host.divf (Host.sin (angles 64 64 bcast_S64_S64x1_0 bcast_S64_S1x64_1 bcast_S64x1_S64x64_0_1 bcast_S1x64_S64x64_0_1 bcast_S_S64x64 64#32 0x42800000#32)) (broadcastInDim S64x64 ![] bcast_S_S64x64 (constant S_ .f32 0x46000000#32)) := by
  simp only [V, V0, List.flatten_cons, List.flatten_nil, List.append_nil]
  after_reads_simp
  rfl

set_option maxHeartbeats 2000000 in
/-- The table of weights at the launch is a literal. -/
theorem V_w (c : Dev nD) : V m c main_call0_cst = (fun i => FloatOps.ofBits (F := Ideal) .f32 (lit0 (S1x64x128.rowMajor i))) := by
  simp only [V, V0, List.flatten_cons, List.flatten_nil, List.append_nil]
  after_reads_simp
  rfl

set_option maxHeartbeats 2000000 in
/-- The kernel's input at the launch is the argument, transposed, split and transposed. -/
theorem V_x (c : Dev nD) : V m c main_call0_v2 = transpose S64x64x128x64 [0, 1, 3, 2] (shapeCast S64x64x64x128 (transpose S64x64x8192 [0, 2, 1] (input m c) transposes_S64x8192x64_S64x64x8192_0_2_1) shapeCasts_S64x64x8192_S64x64x64x128) transposes_S64x64x64x128_S64x64x128x64_0_1_3_2 := by
  simp only [V, V0, List.flatten_cons, List.flatten_nil, List.append_nil]
  after_reads_simp
  rfl

/-! ## The tables at an index -/

/-- An entry of the cosines of the 64-point transform. -/
theorem cos1_apply (c : Dev nD) (i j : Fin 64) : V m c main_call0_v21 (ix2 i j) = ((cosN 64 (i.val * j.val) : ℝ) : EReal) := by
  rw [V_cos1]
  exact cos_angles_apply _ _ _ _ _ (by decide) (by decide) (by decide) 64 (by decide) (by decide) _ word_64 i j
/-- An entry of the sines of the 64-point transform. -/
theorem sin1_apply (c : Dev nD) (i j : Fin 64) : V m c main_call0_v37 (ix2 i j) = ((sinN 64 (i.val * j.val) : ℝ) : EReal) := by
  rw [V_sin1]
  exact sin_angles_apply _ _ _ _ _ (by decide) (by decide) (by decide) 64 (by decide) (by decide) _ word_64 i j
/-- An entry of the cosines of the 128-point transform. -/
theorem cos2_apply (c : Dev nD) (i j : Fin 128) : V m c main_call0_v53 (ix2 i j) = ((cosN 128 (i.val * j.val) : ℝ) : EReal) := by
  rw [V_cos2]
  exact cos_angles_apply _ _ _ _ _ (by decide) (by decide) (by decide) 128 (by decide) (by decide) _ word_128 i j
/-- An entry of the sines of the 128-point transform. -/
theorem sin2_apply (c : Dev nD) (i j : Fin 128) : V m c main_call0_v69 (ix2 i j) = ((sinN 128 (i.val * j.val) : ℝ) : EReal) := by
  rw [V_sin2]
  exact sin_angles_apply _ _ _ _ _ (by decide) (by decide) (by decide) 128 (by decide) (by decide) _ word_128 i j

/-- A leading unit axis changes no entry. -/
theorem lead_apply (x : FVec Ideal S128x64 .f32) (i : Fin 128) (j : Fin 64) : lead x (ix3 0 i j) = x (ix2 i j) := by
  unfold lead
  refine broadcastInDim_apply _ _ _ _ _ fun a => ?_
  match a with
  | ⟨0, _⟩ => rfl
  | ⟨1, _⟩ => rfl

/-- An entry of the twiddle cosines. -/
theorem twc_apply (c : Dev nD) (i : Fin 128) (j : Fin 64) : V m c main_call0_v86 (ix3 0 i j) = ((cosN 8192 (i.val * j.val) : ℝ) : EReal) := by
  rw [V_twc, lead_apply]
  exact cos_angles_apply _ _ _ _ _ (by decide) (by decide) (by decide) 8192 (by decide) (by decide) _ word_8192 i j
/-- An entry of the twiddle sines. -/
theorem tws_apply (c : Dev nD) (i : Fin 128) (j : Fin 64) : V m c main_call0_v88 (ix3 0 i j) = ((sinN 8192 (i.val * j.val) : ℝ) : EReal) := by
  rw [V_tws, lead_apply]
  exact sin_angles_apply _ _ _ _ _ (by decide) (by decide) (by decide) 8192 (by decide) (by decide) _ word_8192 i j
/-- An entry of the transposed twiddle cosines. -/
theorem itwc_apply (c : Dev nD) (j : Fin 64) (i : Fin 128) : V m c main_call0_v89 (ix3 0 j i) = ((cosN 8192 (i.val * j.val) : ℝ) : EReal) := by
  rw [V_itwc, transpose_ix3_021_apply, lead_apply]
  exact cos_angles_apply _ _ _ _ _ (by decide) (by decide) (by decide) 8192 (by decide) (by decide) _ word_8192 i j
/-- An entry of the transposed twiddle sines. -/
theorem itws_apply (c : Dev nD) (j : Fin 64) (i : Fin 128) : V m c main_call0_v90 (ix3 0 j i) = ((sinN 8192 (i.val * j.val) : ℝ) : EReal) := by
  rw [V_itws, transpose_ix3_021_apply, lead_apply]
  exact sin_angles_apply _ _ _ _ _ (by decide) (by decide) (by decide) 8192 (by decide) (by decide) _ word_8192 i j

/-- A real entry divided by the literal 8192 is the real quotient. -/
theorem div_8192 (x : FVec Ideal S64x64 .f32) (i j : Fin 64) (r : ℝ) (h : x (ix2 i j) = ((r : ℝ) : EReal)) :
    Host.divf x (broadcastInDim S64x64 ![] bcast_S_S64x64 (constant S_ .f32 0x46000000#32)) (ix2 i j) = ((r / 8192 : ℝ) : EReal) := by
  have e := scalar_over (constant S_ .f32 0x46000000#32 : FVec Ideal S_ .f32) bcast_S_S64x64 (ix2 i j)
  refine (congrArg₂ (fun a b => Ideal.div a b) h (e.trans word_8192)).trans ?_
  rw [div_real _ _ (by norm_num)]; norm_num

/-- An entry of the cosines of the inverse 64-point transform, over 8192. -/
theorem icos1_apply (c : Dev nD) (i j : Fin 64) : V m c main_call0_v92 (ix2 i j) = ((cosN 64 (i.val * j.val) / 8192 : ℝ) : EReal) := by
  rw [V_icos1]
  exact div_8192 _ i j _ (cos_angles_apply _ _ _ _ _ (by decide) (by decide) (by decide) 64 (by decide) (by decide) _ word_64 i j)
/-- An entry of the sines of the inverse 64-point transform, over 8192. -/
theorem isin1_apply (c : Dev nD) (i j : Fin 64) : V m c main_call0_v94 (ix2 i j) = ((sinN 64 (i.val * j.val) / 8192 : ℝ) : EReal) := by
  rw [V_isin1]
  exact div_8192 _ i j _ (sin_angles_apply _ _ _ _ _ (by decide) (by decide) (by decide) 64 (by decide) (by decide) _ word_64 i j)

/-- The input as the kernel reads it: entry `(b, c, t2, t1)` is `x[b, 128 t1 + t2, c]`. -/
theorem x_apply (c : Dev nD) (b ch : Fin 64) (t2 : Fin 128) (t1 : Fin 64) (t : Fin 8192) (ht : t.val = 128 * t1.val + t2.val) :
    V m c main_call0_v2 (ix4 b ch t2 t1) = input m c (ix3 b t ch) := by
  rw [V_x]
  refine (transpose_apply _ _ _ _ (ix4 b ch t1 t2) fun a => ?_).trans ?_
  · match a with
    | ⟨0, _⟩ => rfl
    | ⟨1, _⟩ => rfl
    | ⟨2, _⟩ => rfl
    | ⟨3, _⟩ => rfl
  refine (shapeCast_apply _ _ _ (ix3 b ch t) ?_).trans (transpose_ix3_021_apply _ _ _ _ _)
  rw [Shape.rowMajor_val_three, Shape.rowMajor_val_four]
  show (b.val * 64 + ch.val) * 8192 + t.val = ((b.val * 64 + ch.val) * 64 + t1.val) * 128 + t2.val
  omega

end Cert.Tables
-- ==== Proof.Weights.lean ====
/- The dense table of spectrum weights: frequency `64 f2 + f1` has weight 1 at 0 and 4096, 2 between them, 0 above. -/
module

public import proofs.«01_k».proof.Proof.HostTables

@[expose] public section

set_option maxRecDepth 16384

noncomputable section

namespace Cert.Tables

open Idealize.ShloMosaic Idealize.ShloMosaic.ValueIdx Cert.KernelIdeal Cert.KernelIdeal.Gen Cert.Fourier Cert.Layout
open Idealize.SL.Sem

/-- The weight of frequency `f` when only the frequencies up to 4096 are summed. -/
def weight (f : ℕ) : ℝ := if f = 0 ∨ f = 4096 then 1 else if f < 4096 then 2 else 0

/-- Its word. -/
def weightWord (f : ℕ) : BitVec 32 := if f = 0 ∨ f = 4096 then 0x3F800000#32 else if f < 4096 then 0x40000000#32 else 0x00000000#32

set_option maxHeartbeats 4000000 in
/-- The table's words. -/
theorem lit0_words : ∀ (f1 : Fin 64) (f2 : Fin 128), lit0 ⟨f1.val * 128 + f2.val, by omega⟩ = weightWord (64 * f2.val + f1.val) := by
  decide +kernel

/-- The word of a weight is the weight. -/
theorem weightWord_value (f : ℕ) : (FloatOps.ofBits (F := Ideal) .f32 (weightWord f) : EReal) = ((weight f : ℝ) : EReal) := by
  unfold weightWord weight
  split_ifs
  · show Ideal.ofBits .f32 0x3F800000#32 = _
    simp [Ideal.ofBits, Ideal.ieee, -EReal.coe_mul]; norm_num
  · exact two_word
  · exact Ideal.ofBits_zero_f32

variable (m : (ℓ : Loc nD τ sig) → Buf (Elt Ideal) ℓ)

/-- An entry of the table of weights. -/
theorem w_apply (c : Dev nD) (f1 : Fin 64) (f2 : Fin 128) : V m c main_call0_cst (ix3 0 f1 f2) = ((weight (64 * f2.val + f1.val) : ℝ) : EReal) := by
  rw [V_w]
  have e : S1x64x128.rowMajor (ix3 0 f1 f2) = (⟨f1.val * 128 + f2.val, by omega⟩ : Fin 8192) := by
    apply Fin.ext
    refine (Shape.rowMajor_val_three _).trans ?_
    show (0 * 64 + f1.val) * 128 + f2.val = f1.val * 128 + f2.val
    omega
  show FloatOps.ofBits (F := Ideal) .f32 (lit0 (S1x64x128.rowMajor (ix3 0 f1 f2))) = _
  rw [e, lit0_words, weightWord_value]

end Cert.Tables
-- ==== Proof.Series.lean ====
/- The series of the input and their spectra: the sums the reference computes, as real numbers. -/
module

public import proofs.«01_k».proof.Proof.Dft
public import Idealize.ShloMosaic.Lib.ValueIdx

@[expose] public section

noncomputable section

namespace Cert.Series

open Idealize.ShloMosaic Cert.Fourier
open scoped BigOperators

/-- The input's type: 64 batches of 8192 samples of 64 channels. -/
abbrev Input : Type := FVec Ideal ⟨3, ![64, 8192, 64]⟩ .f32

/-- Batch `b`'s channel `ch` as a sequence of reals. -/
def series (x : Input) (b ch : Fin 64) (t : ℕ) : ℝ :=
  if h : t < 8192 then (x (ValueIdx.ix3 b ⟨t, h⟩ ch)).toReal else 0

/-- A sample of a series. -/
theorem series_val (x : Input) (b ch : Fin 64) (t : Fin 8192) : series x b ch t.val = (x (ValueIdx.ix3 b t ch)).toReal := by
  unfold series; rw [dif_pos t.isLt]

/-- Every entry of the input is a real number. -/
def IsReal (x : Input) : Prop := ∀ (b : Fin 64) (t : Fin 8192) (ch : Fin 64), x (ValueIdx.ix3 b t ch) = (((x (ValueIdx.ix3 b t ch)).toReal : ℝ) : EReal)

/-- An entry of an array of reals is the sample of its series. -/
theorem IsReal.eq {x : Input} (hx : IsReal x) (b : Fin 64) (t : Fin 8192) (ch : Fin 64) :
    x (ValueIdx.ix3 b t ch) = ((series x b ch t.val : ℝ) : EReal) := by
  rw [series_val]; exact hx b t ch

/-- The cosine sum of a series at frequency `f`. -/
def re (x : Input) (b ch : Fin 64) (f : ℕ) : ℝ := ∑ n : Fin 8192, series x b ch n.val * cosN 8192 (n.val * f)
/-- Minus the sine sum. -/
def im (x : Input) (b ch : Fin 64) (f : ℕ) : ℝ := -∑ n : Fin 8192, series x b ch n.val * sinN 8192 (n.val * f)
/-- The power at frequency `f`. -/
def pow (x : Input) (b ch : Fin 64) (f : ℕ) : ℝ := re x b ch f * re x b ch f + im x b ch f * im x b ch f

/-- A power is not negative. -/
theorem pow_nonneg (x : Input) (b ch : Fin 64) (f : ℕ) : 0 ≤ pow x b ch f := add_nonneg (mul_self_nonneg _) (mul_self_nonneg _)

end Cert.Series

end
-- ==== Proof.Array.lean ====
/- What the kernel's output array holds after the run: at `(b, c, t2, t1)`, sample `128 t1 + t2` of the filtered series of
   batch `b` and channel `c`. -/
module

public import proofs.«01_k».proof.Proof.Block
public import proofs.«01_k».proof.Proof.Weights
public import proofs.«01_k».proof.Proof.Series
public import Idealize.ShloMosaic.Lib.Pipeline.ValueKit

@[expose] public section

set_option maxRecDepth 16384

noncomputable section

namespace Cert.Array

open Idealize.ShloMosaic hiding ix2 ix3 ix4
open Idealize.ShloMosaic.ValueIdx Cert.KernelIdeal Cert.KernelIdeal.Gen Cert.Fourier Cert.Tables Cert.Block Cert.Series
open Idealize.SL.Sem Idealize.ShloMosaic.TcCoe
open Idealize.ShloMosaic.Pipeline (Dat)

/-- The series in the kernel's order: sample `128 t1 + t2` at `(t2, t1)`. -/
def grid (x : Input) (b ch : Fin 64) (t2 : Fin 128) (t1 : Fin 64) : ℝ := series x b ch (128 * t1.val + t2.val)

/-- The weights in the kernel's order: frequency `64 f2 + f1` at `(f1, f2)`. -/
def weights (f1 : Fin 64) (f2 : Fin 128) : ℝ := weight (64 * f2.val + f1.val)

variable (m : (ℓ : Loc nD τ sig) → Buf (Elt Ideal) ℓ)

/-- The array the kernel is to leave. -/
def result (c : Dev nD) : FVec Ideal S64x64x128x64 .f32 := fun i =>
  ((filtered weights (grid (input m c) (i 0) (i 1)) (i 2) (i 3) : ℝ) : EReal)

/-- Point `t`'s block of the input starts at batch `t`. -/
theorem idx0 : ∀ t : Fin cfg0.N, win0_0.index t = ![t.val, 0, 0, 0] := (by decide +kernel : ∀ t : Fin grid0.N, _)
/-- Point `t`'s block of the output starts at batch `t`. -/
theorem idx12 : ∀ t : Fin cfg0.N, win0_12.index t = ![t.val, 0, 0, 0] := (by decide +kernel : ∀ t : Fin grid0.N, _)
/-- The blocks of the tables are the whole tables. -/
theorem idx_tables : ∀ t : Fin cfg0.N, (win0_1.index t = ![0, 0] ∧ win0_2.index t = ![0, 0] ∧ win0_3.index t = ![0, 0]
    ∧ win0_4.index t = ![0, 0] ∧ win0_9.index t = ![0, 0] ∧ win0_10.index t = ![0, 0])
    ∧ win0_5.index t = ![0, 0, 0] ∧ win0_6.index t = ![0, 0, 0] ∧ win0_7.index t = ![0, 0, 0]
    ∧ win0_8.index t = ![0, 0, 0] ∧ win0_11.index t = ![0, 0, 0] := (by decide +kernel : ∀ t : Fin grid0.N, _)

/-- Point `t`'s input block is batch `t`. -/
theorem iblk0_apply (c : Dev nD) (t : Fin cfg0.N) (b : Fin 64) (hb : b.val = t.val) (ch : Fin 64) (t2 : Fin 128) (t1 : Fin 64) :
    iblk m c 0 t (ix4 0 ch t2 t1) = V m c main_call0_v2 (ix4 b ch t2 t1) := by
  show V m c main_call0_v2 (((cfg0.win 0).blk t).view.emb (ix4 0 ch t2 t1)) = _
  refine congrArg (V m c main_call0_v2) (funext fun a => Fin.ext ?_)
  match a with
  | ⟨0, _⟩ => show win0_0.index t 0 * 1 + 1 * 0 = b.val; rw [idx0, hb]; simp
  | ⟨1, _⟩ => show win0_0.index t 1 * 64 + 1 * ch.val = ch.val; rw [idx0]; simp
  | ⟨2, _⟩ => show win0_0.index t 2 * 128 + 1 * t2.val = t2.val; rw [idx0]; simp
  | ⟨3, _⟩ => show win0_0.index t 3 * 64 + 1 * t1.val = t1.val; rw [idx0]; simp

/-- Where an entry of point `t`'s output block sits in the array. -/
theorem emb12 (t : Fin cfg0.N) (b : Fin 64) (hb : b.val = t.val) (ch : Fin 64) (t2 : Fin 128) (t1 : Fin 64) :
    ((cfg0.win 12).blk t).view.emb (ix4 0 ch t2 t1) = ix4 b ch t2 t1 := by
  refine funext fun a => Fin.ext ?_
  match a with
  | ⟨0, _⟩ => show win0_12.index t 0 * 1 + 1 * 0 = b.val; rw [idx12, hb]; simp
  | ⟨1, _⟩ => show win0_12.index t 1 * 64 + 1 * ch.val = ch.val; rw [idx12]; simp
  | ⟨2, _⟩ => show win0_12.index t 2 * 128 + 1 * t2.val = t2.val; rw [idx12]; simp
  | ⟨3, _⟩ => show win0_12.index t 3 * 64 + 1 * t1.val = t1.val; rw [idx12]; simp

/-- At every point the block of table 1 is the whole of the cosines of the 64-point transform. -/
theorem iblk1_eq (c : Dev nD) (t : Fin cfg0.N) (i j : Fin 64) : iblk m c 1 t (ix2 i j) = V m c main_call0_v21 (ix2 i j) := by
  show V m c main_call0_v21 (((cfg0.win 1).blk t).view.emb (ix2 i j)) = _
  refine congrArg (V m c main_call0_v21) (funext fun a => Fin.ext ?_)
  match a with
  | ⟨0, _⟩ => show win0_1.index t 0 * 64 + 1 * i.val = i.val; rw [(idx_tables t).1.1]; simp
  | ⟨1, _⟩ => show win0_1.index t 1 * 64 + 1 * j.val = j.val; rw [(idx_tables t).1.1]; simp
/-- At every point the block of table 2 is the whole of the sines of the 64-point transform. -/
theorem iblk2_eq (c : Dev nD) (t : Fin cfg0.N) (i j : Fin 64) : iblk m c 2 t (ix2 i j) = V m c main_call0_v37 (ix2 i j) := by
  show V m c main_call0_v37 (((cfg0.win 2).blk t).view.emb (ix2 i j)) = _
  refine congrArg (V m c main_call0_v37) (funext fun a => Fin.ext ?_)
  match a with
  | ⟨0, _⟩ => show win0_2.index t 0 * 64 + 1 * i.val = i.val; rw [(idx_tables t).1.2.1]; simp
  | ⟨1, _⟩ => show win0_2.index t 1 * 64 + 1 * j.val = j.val; rw [(idx_tables t).1.2.1]; simp
/-- At every point the block of table 3 is the whole of the cosines of the 128-point transform. -/
theorem iblk3_eq (c : Dev nD) (t : Fin cfg0.N) (i j : Fin 128) : iblk m c 3 t (ix2 i j) = V m c main_call0_v53 (ix2 i j) := by
  show V m c main_call0_v53 (((cfg0.win 3).blk t).view.emb (ix2 i j)) = _
  refine congrArg (V m c main_call0_v53) (funext fun a => Fin.ext ?_)
  match a with
  | ⟨0, _⟩ => show win0_3.index t 0 * 128 + 1 * i.val = i.val; rw [(idx_tables t).1.2.2.1]; simp
  | ⟨1, _⟩ => show win0_3.index t 1 * 128 + 1 * j.val = j.val; rw [(idx_tables t).1.2.2.1]; simp
/-- At every point the block of table 4 is the whole of the sines of the 128-point transform. -/
theorem iblk4_eq (c : Dev nD) (t : Fin cfg0.N) (i j : Fin 128) : iblk m c 4 t (ix2 i j) = V m c main_call0_v69 (ix2 i j) := by
  show V m c main_call0_v69 (((cfg0.win 4).blk t).view.emb (ix2 i j)) = _
  refine congrArg (V m c main_call0_v69) (funext fun a => Fin.ext ?_)
  match a with
  | ⟨0, _⟩ => show win0_4.index t 0 * 128 + 1 * i.val = i.val; rw [(idx_tables t).1.2.2.2.1]; simp
  | ⟨1, _⟩ => show win0_4.index t 1 * 128 + 1 * j.val = j.val; rw [(idx_tables t).1.2.2.2.1]; simp
/-- At every point the block of table 9 is the whole of the scaled cosines of the inverse 64-point transform. -/
theorem iblk9_eq (c : Dev nD) (t : Fin cfg0.N) (i j : Fin 64) : iblk m c 9 t (ix2 i j) = V m c main_call0_v92 (ix2 i j) := by
  show V m c main_call0_v92 (((cfg0.win 9).blk t).view.emb (ix2 i j)) = _
  refine congrArg (V m c main_call0_v92) (funext fun a => Fin.ext ?_)
  match a with
  | ⟨0, _⟩ => show win0_9.index t 0 * 64 + 1 * i.val = i.val; rw [(idx_tables t).1.2.2.2.2.1]; simp
  | ⟨1, _⟩ => show win0_9.index t 1 * 64 + 1 * j.val = j.val; rw [(idx_tables t).1.2.2.2.2.1]; simp
/-- At every point the block of table 10 is the whole of the scaled sines of the inverse 64-point transform. -/
theorem iblk10_eq (c : Dev nD) (t : Fin cfg0.N) (i j : Fin 64) : iblk m c 10 t (ix2 i j) = V m c main_call0_v94 (ix2 i j) := by
  show V m c main_call0_v94 (((cfg0.win 10).blk t).view.emb (ix2 i j)) = _
  refine congrArg (V m c main_call0_v94) (funext fun a => Fin.ext ?_)
  match a with
  | ⟨0, _⟩ => show win0_10.index t 0 * 64 + 1 * i.val = i.val; rw [(idx_tables t).1.2.2.2.2.2]; simp
  | ⟨1, _⟩ => show win0_10.index t 1 * 64 + 1 * j.val = j.val; rw [(idx_tables t).1.2.2.2.2.2]; simp
/-- At every point the block of table 5 is the whole of the twiddle cosines. -/
theorem iblk5_eq (c : Dev nD) (t : Fin cfg0.N) (i : Fin 128) (j : Fin 64) : iblk m c 5 t (ix3 0 i j) = V m c main_call0_v86 (ix3 0 i j) := by
  show V m c main_call0_v86 (((cfg0.win 5).blk t).view.emb (ix3 0 i j)) = _
  refine congrArg (V m c main_call0_v86) (funext fun a => Fin.ext ?_)
  match a with
  | ⟨0, _⟩ => show win0_5.index t 0 * 1 + 1 * 0 = 0; rw [(idx_tables t).2.1]; simp
  | ⟨1, _⟩ => show win0_5.index t 1 * 128 + 1 * i.val = i.val; rw [(idx_tables t).2.1]; simp
  | ⟨2, _⟩ => show win0_5.index t 2 * 64 + 1 * j.val = j.val; rw [(idx_tables t).2.1]; simp
/-- At every point the block of table 6 is the whole of the twiddle sines. -/
theorem iblk6_eq (c : Dev nD) (t : Fin cfg0.N) (i : Fin 128) (j : Fin 64) : iblk m c 6 t (ix3 0 i j) = V m c main_call0_v88 (ix3 0 i j) := by
  show V m c main_call0_v88 (((cfg0.win 6).blk t).view.emb (ix3 0 i j)) = _
  refine congrArg (V m c main_call0_v88) (funext fun a => Fin.ext ?_)
  match a with
  | ⟨0, _⟩ => show win0_6.index t 0 * 1 + 1 * 0 = 0; rw [(idx_tables t).2.2.1]; simp
  | ⟨1, _⟩ => show win0_6.index t 1 * 128 + 1 * i.val = i.val; rw [(idx_tables t).2.2.1]; simp
  | ⟨2, _⟩ => show win0_6.index t 2 * 64 + 1 * j.val = j.val; rw [(idx_tables t).2.2.1]; simp
/-- At every point the block of table 7 is the whole of the transposed twiddle cosines. -/
theorem iblk7_eq (c : Dev nD) (t : Fin cfg0.N) (i : Fin 64) (j : Fin 128) : iblk m c 7 t (ix3 0 i j) = V m c main_call0_v89 (ix3 0 i j) := by
  show V m c main_call0_v89 (((cfg0.win 7).blk t).view.emb (ix3 0 i j)) = _
  refine congrArg (V m c main_call0_v89) (funext fun a => Fin.ext ?_)
  match a with
  | ⟨0, _⟩ => show win0_7.index t 0 * 1 + 1 * 0 = 0; rw [(idx_tables t).2.2.2.1]; simp
  | ⟨1, _⟩ => show win0_7.index t 1 * 64 + 1 * i.val = i.val; rw [(idx_tables t).2.2.2.1]; simp
  | ⟨2, _⟩ => show win0_7.index t 2 * 128 + 1 * j.val = j.val; rw [(idx_tables t).2.2.2.1]; simp
/-- At every point the block of table 8 is the whole of the transposed twiddle sines. -/
theorem iblk8_eq (c : Dev nD) (t : Fin cfg0.N) (i : Fin 64) (j : Fin 128) : iblk m c 8 t (ix3 0 i j) = V m c main_call0_v90 (ix3 0 i j) := by
  show V m c main_call0_v90 (((cfg0.win 8).blk t).view.emb (ix3 0 i j)) = _
  refine congrArg (V m c main_call0_v90) (funext fun a => Fin.ext ?_)
  match a with
  | ⟨0, _⟩ => show win0_8.index t 0 * 1 + 1 * 0 = 0; rw [(idx_tables t).2.2.2.2.1]; simp
  | ⟨1, _⟩ => show win0_8.index t 1 * 64 + 1 * i.val = i.val; rw [(idx_tables t).2.2.2.2.1]; simp
  | ⟨2, _⟩ => show win0_8.index t 2 * 128 + 1 * j.val = j.val; rw [(idx_tables t).2.2.2.2.1]; simp
/-- At every point the block of table 11 is the whole of the weights of the frequencies. -/
theorem iblk11_eq (c : Dev nD) (t : Fin cfg0.N) (i : Fin 64) (j : Fin 128) : iblk m c 11 t (ix3 0 i j) = V m c main_call0_cst (ix3 0 i j) := by
  show V m c main_call0_cst (((cfg0.win 11).blk t).view.emb (ix3 0 i j)) = _
  refine congrArg (V m c main_call0_cst) (funext fun a => Fin.ext ?_)
  match a with
  | ⟨0, _⟩ => show win0_11.index t 0 * 1 + 1 * 0 = 0; rw [(idx_tables t).2.2.2.2.2]; simp
  | ⟨1, _⟩ => show win0_11.index t 1 * 64 + 1 * i.val = i.val; rw [(idx_tables t).2.2.2.2.2]; simp
  | ⟨2, _⟩ => show win0_11.index t 2 * 128 + 1 * j.val = j.val; rw [(idx_tables t).2.2.2.2.2]; simp

set_option maxHeartbeats 1000000 in
/-- What point `t` leaves in its block: batch `t` filtered. -/
theorem point (c : Dev nD) (hx : IsReal (input m c)) (t : Fin cfg0.N) (b : Fin 64) (hb : b.val = t.val) (ch : Fin 64) (t2 : Fin 128) (t1 : Fin 64) :
    out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix4 0 ch t2 t1) = result m c (ix4 b ch t2 t1) := by
  refine out_apply weights (grid (input m c) b) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) ?_ ?_ ?_ ?_ ?_ ?_ ?_ ?_ ?_ ?_ ?_ ?_ ch t2 t1
  · intro ch t2 t1
    have hlt : 128 * t1.val + t2.val < 8192 := by omega
    rw [iblk0_apply m c t b hb, x_apply m c b ch t2 t1 ⟨128 * t1.val + t2.val, hlt⟩ rfl, hx.eq]
    rfl
  · intro i j; rw [iblk1_eq]; exact cos1_apply m c i j
  · intro i j; rw [iblk2_eq]; exact sin1_apply m c i j
  · intro i j; rw [iblk3_eq]; exact cos2_apply m c i j
  · intro i j; rw [iblk4_eq]; exact sin2_apply m c i j
  · intro i j; rw [iblk5_eq]; exact twc_apply m c i j
  · intro i j; rw [iblk6_eq]; exact tws_apply m c i j
  · intro i j; rw [iblk7_eq]; exact itwc_apply m c i j
  · intro i j; rw [iblk8_eq]; exact itws_apply m c i j
  · intro i j; rw [iblk9_eq]; exact icos1_apply m c i j
  · intro i j; rw [iblk10_eq]; exact isin1_apply m c i j
  · intro i j; rw [iblk11_eq]; exact w_apply m c i j

/-- The kernel's output array after the run. -/
theorem final (c : Dev nD) (hx : IsReal (input m c)) : (dats m 0 c).arrAt 12 (cfgs 0).N = result m c := by
  refine (dats m 0 c).arrAt_eq_of_covers 12 (result m c) (by decide +kernel) fun t _ y => ?_
  blk_simp
  rw [after0_12]
  obtain ⟨i0, ch, t2, t1, rfl⟩ : ∃ (i0 : Fin 1) (ch : Fin 64) (t2 : Fin 128) (t1 : Fin 64), y = ix4 i0 ch t2 t1 := ⟨y 0, y 1, y 2, y 3, ValueIdx.eq_ix4 y⟩
  obtain rfl : i0 = 0 := Subsingleton.elim _ _
  have hb : t.val < 64 := t.isLt
  refine (point m c hx t ⟨t.val, hb⟩ rfl ch t2 t1).trans ?_
  exact congrArg (result m c) (emb12 t ⟨t.val, hb⟩ rfl ch t2 t1).symm

end Cert.Array

end
-- ==== Proof.Run.lean ====
/- The kernel's result: its output array, transposed and reshaped by the host after the launch, holds the filtered series. -/
module

public import proofs.«01_k».proof.Proof.Array
public import Idealize.ShloMosaic.Lib.StableHlo.RunRead
public import Idealize.ShloMosaic.Adequacy
public import Idealize.ShloMosaic.Init

@[expose] public section

set_option maxRecDepth 16384

noncomputable section

namespace Cert.Run

open Idealize.ShloMosaic Idealize.ShloMosaic.TcCoe Idealize.SL.Sem Cert.KernelIdeal Cert.KernelIdeal.Gen Cert.Tables Cert.Series Cert.Block Cert.Array

variable (m : (ℓ : Loc nD τ sig) → Buf (Elt Ideal) ℓ) (ρ : Dev nD → PrngReg)

/-- Different windows stage different arrays. -/
theorem distinct : Function.Injective (Pipeline.arrRef spec0) := by decide

/-- The host lines after the launch. -/
theorem suffix (c : Dev nD) :
    (Pipeline.afterTail₀ cfgs (dats m) 0 (V0 m) [hostOps1] c main_v0 : FVec Ideal S64x8192x64 .f32)
      = shapeCast S64x8192x64 (transpose S64x64x128x64 [0, 3, 2, 1] ((dats m 0 c).arrAt 12 (cfgs 0).N : FVec Ideal S64x64x128x64 .f32)
          transposes_S64x64x128x64_S64x64x128x64_0_3_2_1) shapeCasts_S64x64x128x64_S64x8192x64 := by
  unfold Pipeline.afterTail₀
  have e : (Pipeline.withArrays (cfgs 0).spec c (V0 m c) (fun w => (dats m 0 c).arrAt w (cfgs 0).N) (Proc.devRef .tc main_call0_v95) : FVec Ideal S64x64x128x64 .f32)
      = (dats m 0 c).arrAt 12 (cfgs 0).N :=
    Pipeline.withArrays_arr spec0 distinct c (V0 m c) (fun w => (dats m 0 c).arrAt w (cfgs 0).N) 12
  show StableHlo.after [_, _] _ _ = _
  after_reads_simp
  exact congrArg (fun y : FVec Ideal S64x64x128x64 .f32 => shapeCast S64x8192x64
    (transpose S64x64x128x64 [0, 3, 2, 1] y transposes_S64x64x128x64_S64x64x128x64_0_3_2_1) shapeCasts_S64x64x128x64_S64x8192x64) e

/-- The kernel's result read at a sample: the filtered series there. -/
theorem suffix_apply (c : Dev nD) (hx : IsReal (input m c)) (b : Fin 64) (t1 : Fin 64) (t2 : Fin 128) (ch : Fin 64) (t : Fin 8192)
    (ht : t.val = 128 * t1.val + t2.val) :
    (Pipeline.afterTail₀ cfgs (dats m) 0 (V0 m) [hostOps1] c main_v0 : FVec Ideal S64x8192x64 .f32) (ValueIdx.ix3 b t ch)
      = ((filtered weights (grid (input m c) b ch) t2 t1 : ℝ) : EReal) := by
  rw [suffix, final m c hx]
  refine (shapeCast_apply _ _ _ (ValueIdx.ix4 b t1 t2 ch) ?_).trans ?_
  · rw [Shape.rowMajor_val_four, Shape.rowMajor_val_three]
    show ((b.val * 64 + t1.val) * 128 + t2.val) * 64 + ch.val = (b.val * 8192 + t.val) * 64 + ch.val
    omega
  · refine (transpose_apply _ _ _ _ (ValueIdx.ix4 b ch t2 t1) fun a => ?_).trans rfl
    match a with
    | ⟨0, _⟩ => rfl
    | ⟨1, _⟩ => rfl
    | ⟨2, _⟩ => rfl
    | ⟨3, _⟩ => rfl

/-- The run leaves the host's lines in the result and the argument as it was. -/
theorem run : θ_run defs (onTc (τ := τ) (main (F := Ideal))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)) :=
  (θ_run defs _ _).mono (fun _ h c => ⟨(h c).2 main_v0 (Pipeline.mem_restRefs_of main_v0 (by decide) (by decide)),
    ((h c).2 main_arg0 (Pipeline.mem_restRefs_of main_arg0 (by decide) (by decide))).trans (W_main_arg0 m (dats m) c)⟩) (run_main m ρ)

end Cert.Run

end
-- ==== Proof.Keep.lean ====
/- Which frequencies the kernel's threshold keeps, given the frequencies in the order of their powers. -/
module

public import proofs.«01_k».proof.Proof.Array

@[expose] public section

noncomputable section

namespace Cert.Keep

open Cert.Block Cert.Tables Cert.Array Cert.Select

/-- Frequency `f`'s place in the kernel's table. -/
def bin (f : Fin 4097) : Fin 64 × Fin 128 := (⟨f.val % 64, by omega⟩, ⟨f.val / 64, by omega⟩)

/-- A frequency can be read off its place. -/
theorem bin_back (f : Fin 4097) : 64 * (bin f).2.val + (bin f).1.val = f.val := by
  show 64 * (f.val / 64) + f.val % 64 = f.val
  omega

/-- Different frequencies have different places. -/
theorem bin_injective : Function.Injective bin := fun f g h => Fin.ext (by rw [← bin_back f, ← bin_back g, h])

/-- Every place below frequency 4097 is the place of its frequency. -/
theorem bin_of (g : Fin 64 × Fin 128) (h : 64 * g.2.val + g.1.val < 4097) : bin ⟨64 * g.2.val + g.1.val, h⟩ = g := by
  refine Prod.ext (Fin.ext ?_) (Fin.ext ?_)
  · show (64 * g.2.val + g.1.val) % 64 = g.1.val; omega
  · show (64 * g.2.val + g.1.val) / 64 = g.2.val; omega

/-- The weight of a frequency up to 4096 is positive. -/
theorem weight_pos (f : ℕ) (h : f < 4097) : 0 < weight f := by
  unfold weight
  by_cases h0 : f = 0 ∨ f = 4096
  · rw [if_pos h0]; norm_num
  · rw [if_neg h0, if_pos (by omega)]; norm_num

/-- The weight above frequency 4096 is zero. -/
theorem weight_above (f : ℕ) (h : 4096 < f) : weight f = 0 := by
  unfold weight
  rw [if_neg (by omega), if_neg (by omega)]

variable (X : Fin 128 → Fin 64 → ℝ) (P : ℕ → ℝ) (o : Fin 4097 → Fin 4097)

/-- `P` lists the powers, `o` the frequencies with the powers falling. -/
structure Ordered : Prop where
  power : ∀ f1 f2, power X f1 f2 = P (64 * f2.val + f1.val)
  nonneg : ∀ f, 0 ≤ P f
  inj : Function.Injective o
  surj : Function.Surjective o
  anti : ∀ i j, i < j → P (o j).val ≤ P (o i).val

/-- Place `k` among the first 33. -/
abbrev place (k : Fin 33) : Fin 4097 := ⟨k.val, lt_of_lt_of_le k.isLt (by decide)⟩

/-- The first 32 frequencies, as places of the kernel's table. -/
def best : Finset (Fin 64 × Fin 128) := (Finset.univ : Finset (Fin 32)).image fun k => bin (o (place k.castSucc))

variable {X P o} (H : Ordered X P o)
include H

/-- Before the first round, the entry of a frequency up to 4096 is its power. -/
theorem cur_low (f : Fin 4097) : cur weights X (bin f) = ((P f.val : ℝ) : EReal) := by
  unfold cur weights
  rw [bin_back, if_pos (weight_pos _ f.isLt), H.power, bin_back]

/-- Before the first round, the entry of a frequency above 4096 is -1. -/
theorem cur_high (g : Fin 64 × Fin 128) (h : 4096 < 64 * g.2.val + g.1.val) : cur weights X g = ((-1 : ℝ) : EReal) := by
  unfold cur weights
  rw [weight_above _ h, if_neg (lt_irrefl _)]

/-- The first 32 frequencies are 32 places. -/
theorem best_card : (best o).card = 31 + 1 := by
  unfold best
  rw [Finset.card_image_of_injective, Finset.card_univ, Fintype.card_fin]
  intro i j h
  have := congrArg Fin.val (H.inj (bin_injective h))
  exact Fin.ext this

/-- A frequency that is none of the first 32 stands at place 32 or later. -/
theorem later (f : Fin 4097) (h : ∀ k : Fin 32, o (place k.castSucc) ≠ f) : ∃ j : Fin 4097, 32 ≤ j.val ∧ o j = f := by
  obtain ⟨j, hj⟩ := H.surj f
  refine ⟨j, ?_, hj⟩
  by_contra hc
  exact h ⟨j.val, by omega⟩ ((congrArg o (Fin.ext rfl)).trans hj)

/-- The powers fall along the order, equal places included. -/
theorem anti_le (i j : Fin 4097) (h : i ≤ j) : P (o j).val ≤ P (o i).val := by
  rcases h.lt_or_eq with h' | h'
  · exact H.anti i j h'
  · rw [h']

/-- The threshold is at most the power of each of the first 32. -/
theorem threshold_le (k : Fin 32) : threshold weights X ≤ ((P (o (place k.castSucc)).val : ℝ) : EReal) := by
  rw [← cur_low H]
  have neg_le : ∀ f : Fin 4097, ((-1 : ℝ) : EReal) ≤ cur weights X (bin f) := fun f => by
    rw [cur_low H]
    exact EReal.coe_le_coe_iff.mpr (by linarith [H.nonneg f.val])
  refine le_of_mem 31 (best o) (best_card H) ?_ _ ?_ (neg_le _)
  · intro f hf g hg
    obtain ⟨i, -, rfl⟩ := Finset.mem_image.mp hf
    by_cases hl : 64 * g.2.val + g.1.val < 4097
    · obtain ⟨j, hj, e⟩ := later H ⟨_, hl⟩ fun k hk => hg (Finset.mem_image.mpr ⟨k, Finset.mem_univ _, by rw [hk, bin_of]⟩)
      rw [← bin_of g hl, ← e, cur_low H, cur_low H]
      exact EReal.coe_le_coe_iff.mpr (H.anti _ _ (by show i.val < j.val; omega))
    · rw [cur_high H g (by omega)]
      exact neg_le _
  · exact Finset.mem_image.mpr ⟨k, Finset.mem_univ _, rfl⟩

/-- The kernel keeps the first 32 frequencies with their weights. -/
theorem kept_best (k : Fin 32) (f1 : Fin 64) (f2 : Fin 128) (h : (o (place k.castSucc)).val = 64 * f2.val + f1.val) :
    kept weights X f1 f2 = weights f1 f2 := by
  unfold kept
  rw [if_pos]
  rw [H.power, ← h]
  exact threshold_le H k

omit H in
/-- It keeps nothing above frequency 4096. -/
theorem kept_above (f1 : Fin 64) (f2 : Fin 128) (h : 4096 < 64 * f2.val + f1.val) : kept weights X f1 f2 = 0 := by
  unfold kept weights
  rw [weight_above _ h, ite_self]

variable (S : ∀ k : Fin 32, P (o (place k.succ)).val < P (o (place k.castSucc)).val)

section
include S

/-- Where the first 33 powers strictly fall, each is above every later one. -/
theorem strict (i : Fin 32) (j : Fin 4097) (h : i.val < j.val) : P (o j).val < P (o (place i.castSucc)).val :=
  lt_of_le_of_lt (anti_le H (place i.succ) j (by show i.val + 1 ≤ j.val; omega)) (S i)

/-- There the kernel keeps no other frequency. -/
theorem kept_other (f1 : Fin 64) (f2 : Fin 128) (hl : 64 * f2.val + f1.val < 4097)
    (h : ∀ k : Fin 32, (o (place k.castSucc)).val ≠ 64 * f2.val + f1.val) : kept weights X f1 f2 = 0 := by
  unfold kept
  rw [if_neg]
  rw [not_le, H.power]
  obtain ⟨j, hj, e⟩ := later H ⟨_, hl⟩ fun k hk => h k (congrArg Fin.val hk)
  have ec := cur_low H ⟨_, hl⟩
  rw [bin_of (f1, f2) hl] at ec
  rw [← ec]
  refine lt_of_notMem 31 (best o) (best_card H) ?_ _ ?_
  · intro a ha b hb hab
    obtain ⟨i, -, rfl⟩ := Finset.mem_image.mp (Finset.mem_coe.mp ha)
    obtain ⟨i', -, rfl⟩ := Finset.mem_image.mp (Finset.mem_coe.mp hb)
    rw [cur_low H, cur_low H, EReal.coe_eq_coe_iff] at hab
    rcases Nat.lt_trichotomy i.val i'.val with q | q | q
    · exact absurd hab (strict H S i (place i'.castSucc) q).ne'
    · rw [Fin.ext q]
    · exact absurd hab (strict H S i' (place i.castSucc) q).ne
  · intro g hg
    obtain ⟨i, -, rfl⟩ := Finset.mem_image.mp hg
    rw [ec, cur_low H, EReal.coe_lt_coe_iff]
    have := strict H S i j (by omega)
    rw [e] at this
    exact this

end

/-- Where the 33rd power is zero, so is that of every frequency but the first 32. -/
theorem other_zero (Z : P (o (place 32)).val = 0) (f : ℕ) (hl : f < 4097) (h : ∀ k : Fin 32, (o (place k.castSucc)).val ≠ f) : P f = 0 := by
  obtain ⟨j, hj, e⟩ := later H ⟨f, hl⟩ fun k hk => h k (congrArg Fin.val hk)
  have := anti_le H (place 32) j (by show 32 ≤ j.val; omega)
  rw [Z, e] at this
  exact le_antisymm this (H.nonneg f)

end Cert.Keep

end
-- ==== Proof.Spectrum.lean ====
/- The reference's tables, spectrum and amplitudes read at an index. -/
module

public import proofs.«01_k».proof.Proof.Gen.ReferenceIdeal.Read
public import proofs.«01_k».proof.Proof.Angles
public import proofs.«01_k».proof.Proof.Series

@[expose] public section

set_option maxRecDepth 16384

noncomputable section

namespace Cert.Spectrum

open Idealize.ShloMosaic Cert.ReferenceIdeal Cert.ReferenceIdeal.Gen Cert.ReferenceIdeal.Read Cert.Fourier Cert.Tables Cert.Series
open scoped BigOperators

/-- The reference's angles, a product with a quotient, as a quotient of a product. -/
theorem angle_eq : val_main_v16 (F := Ideal) = angles 8192 4097 bcast_S8192_S8192x1_0 bcast_S4097_S1x4097_1 bcast_S8192x1_S8192x4097_0_1
    bcast_S1x4097_S8192x4097_0_1 bcast_S_S8192x4097 8192#32 0x46000000#32 := by
  have h : val_main_v16 (F := Ideal) = (Host.divf (F := Ideal) (s := S8192x4097) (φ := .f32) (mulf (val_main_v15 (F := Ideal)) (val_main_v11 (F := Ideal))) (val_main_v12 (F := Ideal)) : FVec Ideal S8192x4097 .f32) := by
    funext i
    have hd : (val_main_v12 (F := Ideal) i : EReal) = (((8192 : ℕ) : ℝ) : EReal) := (val_main_v12_apply i).trans word_8192
    have hn : (((8192 : ℕ) : ℝ)) ≠ 0 := by norm_num
    show (val_main_v15 (F := Ideal) i : EReal) * Ideal.div (val_main_v11 (F := Ideal) i) (val_main_v12 (F := Ideal) i)
      = Ideal.div ((val_main_v15 (F := Ideal) i : EReal) * val_main_v11 (F := Ideal) i) (val_main_v12 (F := Ideal) i)
    rw [hd, Ideal.div_coe hn, Ideal.div_coe hn, mul_assoc]
  rw [h]
  unfold val_main_v15 val_main_v14 val_main_v12 val_main_v11 val_main_v10 val_main_v9 val_main_v8 val_main_v7
    val_main_v6 val_main_v5 val_main_v4 val_main_v3 val_main_v2 val_main_v1 val_main_v0 val_main_c val_main_cst val_main_cst_0 val_main_cst_1 angles
  rfl

/-- The reference's cosine table: sample `n`, frequency `f`. -/
theorem cos_apply (n : Fin 8192) (f : Fin 4097) :
    (val_main_v17 (F := Ideal) (ValueIdx.ix2 n f) : EReal) = ((cosN 8192 (n.val * f.val) : ℝ) : EReal) := by
  unfold val_main_v17
  rw [angle_eq]
  exact cos_angles_apply _ _ _ _ _ (by decide) (by decide) (by decide) 8192 (by decide) (by decide) _ word_8192 n f

/-- The reference's sine table. -/
theorem sin_apply (n : Fin 8192) (f : Fin 4097) :
    (val_main_v18 (F := Ideal) (ValueIdx.ix2 n f) : EReal) = ((sinN 8192 (n.val * f.val) : ℝ) : EReal) := by
  unfold val_main_v18
  rw [angle_eq]
  exact sin_angles_apply _ _ _ _ _ (by decide) (by decide) (by decide) 8192 (by decide) (by decide) _ word_8192 n f

variable (x : Input)

/-- The transposed input. -/
theorem x_apply (b ch : Fin 64) (n : Fin 8192) : val_main_v19 (F := Ideal) x (ValueIdx.ix3 b ch n) = x (ValueIdx.ix3 b n ch) := by
  rw [val_main_v19_apply]
  exact congrArg x (funext fun a => match a with | ⟨0, _⟩ => rfl | ⟨1, _⟩ => rfl | ⟨2, _⟩ => rfl)

variable {x} (hx : IsReal x)
include hx

/-- The cosine sums. -/
theorem re_apply (b ch : Fin 64) (f : Fin 4097) :
    (val_main_v20 (F := Ideal) x (ValueIdx.ix3 b ch f) : EReal) = ((re x b ch f.val : ℝ) : EReal) := by
  rw [val_main_v20_apply]
  unfold re
  rw [coe_sum]
  refine Finset.sum_congr rfl fun n _ => ?_
  have e1 : lidx_main_v20 (ValueIdx.ix3 b ch f) n = ValueIdx.ix3 b ch n :=
    funext fun a => match a with | ⟨0, _⟩ => rfl | ⟨1, _⟩ => rfl | ⟨2, _⟩ => rfl
  have e2 : ridx_main_v20 (ValueIdx.ix3 b ch f) n = ValueIdx.ix2 n f := funext fun a => match a with | ⟨0, _⟩ => rfl | ⟨1, _⟩ => rfl
  rw [e1, e2, x_apply, cos_apply, hx.eq, EReal.coe_mul]

/-- The sine sums. -/
theorem sine_apply (b ch : Fin 64) (f : Fin 4097) :
    (val_main_v21 (F := Ideal) x (ValueIdx.ix3 b ch f) : EReal) = ((∑ n : Fin 8192, series x b ch n.val * sinN 8192 (n.val * f.val) : ℝ) : EReal) := by
  rw [val_main_v21_apply, coe_sum]
  refine Finset.sum_congr rfl fun n _ => ?_
  have e1 : lidx_main_v21 (ValueIdx.ix3 b ch f) n = ValueIdx.ix3 b ch n :=
    funext fun a => match a with | ⟨0, _⟩ => rfl | ⟨1, _⟩ => rfl | ⟨2, _⟩ => rfl
  have e2 : ridx_main_v21 (ValueIdx.ix3 b ch f) n = ValueIdx.ix2 n f := funext fun a => match a with | ⟨0, _⟩ => rfl | ⟨1, _⟩ => rfl
  rw [e1, e2, x_apply, sin_apply, hx.eq, EReal.coe_mul]

/-- Their negatives. -/
theorem im_apply (b ch : Fin 64) (f : Fin 4097) :
    (val_main_v22 (F := Ideal) x (ValueIdx.ix3 b ch f) : EReal) = ((im x b ch f.val : ℝ) : EReal) := by
  rw [val_main_v22_apply]
  show -(val_main_v21 (F := Ideal) x (ValueIdx.ix3 b ch f) : EReal) = _
  rw [sine_apply hx, ← EReal.coe_neg]
  rfl

/-- The amplitudes are the roots of the powers. -/
theorem amp_apply (b ch : Fin 64) (f : Fin 4097) :
    (val_main_v26 (F := Ideal) x (ValueIdx.ix3 b ch f) : EReal) = ((Real.sqrt (pow x b ch f.val) : ℝ) : EReal) := by
  rw [val_main_v26_apply]
  show Ideal.sqrt ((val_main_v20 (F := Ideal) x (ValueIdx.ix3 b ch f) : EReal) * val_main_v20 (F := Ideal) x (ValueIdx.ix3 b ch f)
    + (val_main_v22 (F := Ideal) x (ValueIdx.ix3 b ch f) : EReal) * val_main_v22 (F := Ideal) x (ValueIdx.ix3 b ch f)) = _
  rw [re_apply hx, im_apply hx, ← EReal.coe_mul, ← EReal.coe_mul, ← EReal.coe_add]
  show Ideal.sqrt ((pow x b ch f.val : ℝ) : EReal) = _
  rw [Ideal.sqrt_coe, if_neg (not_lt.mpr (pow_nonneg x b ch f.val))]

end Cert.Spectrum

end
-- ==== Proof.Top.lean ====
/- The frequencies in the order of their amplitudes, greatest first, as the host's top-k takes them. -/
module

public import Idealize.ShloMosaic.Lib.SortFacts
public import Idealize.ShloMosaic.Lib.Pipeline.Value
public import Idealize.ShloMosaic.Lib.ValueIdx
public import Idealize.ShloMosaic.PureOps.Ideal.Laws

@[expose] public section

set_option maxRecDepth 16384

noncomputable section

namespace Cert.Top

open Idealize.ShloMosaic

/-- The amplitudes of 4097 frequencies of every series. -/
abbrev Amps : Type := FVec Ideal ⟨3, ![64, 64, 4097]⟩ .f32

variable (v : Amps) (b c : Fin 64)

/-- Whether frequency `k` has a greater amplitude than frequency `k'`. -/
def before (k k' : Fin 4097) : Bool := FloatOps.cmpfTotal .gt (v (ValueIdx.ix3 b c k)) (v (ValueIdx.ix3 b c k')) == 1#1

/-- The frequency in place `k` of the order. -/
def order : Fin 4097 → Fin 4097 := sortedFrom (before v b c)

/-- No frequency comes twice in the order. -/
theorem order_injective : Function.Injective (order v b c) := sortedFrom_injective _
/-- Every frequency comes in the order. -/
theorem order_surjective : Function.Surjective (order v b c) := sortedFrom_surjective _

/-- One frequency comes before another when its amplitude is the greater. -/
theorem before_iff (k k' : Fin 4097) : before v b c k k' = true ↔ (v (ValueIdx.ix3 b c k') : EReal) < v (ValueIdx.ix3 b c k) := by
  unfold before
  rw [beq_iff_eq]
  show Ideal.cmp .ogt (v (ValueIdx.ix3 b c k)) (v (ValueIdx.ix3 b c k')) = 1#1 ↔ _
  simp only [Ideal.cmp]
  by_cases h : (v (ValueIdx.ix3 b c k') : EReal) < v (ValueIdx.ix3 b c k)
  · simp [h]
  · simp [h]

/-- Amplitudes do not grow along the order. -/
theorem order_le (i j : Fin 4097) (hij : i < j) :
    (v (ValueIdx.ix3 b c (order v b c j)) : EReal) ≤ v (ValueIdx.ix3 b c (order v b c i)) := by
  have h := sortedFrom_noInversion (before v b c) (before v b c)
    (fun a d h => by
      rw [Bool.eq_false_iff, Ne, before_iff]; exact not_lt.mpr ((before_iff v b c a d).mp h).le)
    (fun _ _ h => h)
    (fun a d e h1 h2 => by
      rw [Bool.eq_false_iff, Ne, before_iff] at *
      exact not_lt.mpr ((not_lt.mp h1).trans (not_lt.mp h2))) i j hij
  rw [Bool.eq_false_iff, Ne, before_iff] at h
  exact not_lt.mp h

/-- The entry of the sorted amplitudes is the amplitude at the sorted place. -/
theorem along_last (k k' : Fin 4097) :
    Shape.Idx.along (s := ⟨3, ![64, 64, 4097]⟩) (ValueIdx.ix3 b c k) (2 : Fin 3) k' = ValueIdx.ix3 b c k' := by
  funext a
  unfold Shape.Idx.along
  match a with
  | ⟨0, _⟩ => rfl
  | ⟨1, _⟩ => rfl
  | ⟨2, _⟩ => rfl

/-- The order is the sort's. -/
theorem sorted_eq (k k₀ : Fin 4097) :
    sortedFrom (fun k₁ k₂ => FloatOps.cmpfTotal .gt (v (Shape.Idx.along (s := ⟨3, ![64, 64, 4097]⟩) (ValueIdx.ix3 b c k₀) (2 : Fin 3) k₁))
      (v (Shape.Idx.along (s := ⟨3, ![64, 64, 4097]⟩) (ValueIdx.ix3 b c k₀) (2 : Fin 3) k₂)) == 1#1) k = order v b c k := by
  unfold order
  refine congrArg (fun r => sortedFrom r k) (funext fun k₁ => funext fun k₂ => ?_)
  exact congrArg₂ (fun p q => FloatOps.cmpfTotal (F := Ideal) .gt (v p) (v q) == 1#1) (along_last b c k₀ k₁) (along_last b c k₀ k₂)

variable {K : ℕ} (hK : K ≤ 4097) (h : (⟨3, ![64, 64, 4097]⟩ : Shape).Slices (fun _ => 0) ⟨3, ![64, 64, K]⟩)

/-- The `k`-th greatest amplitude. -/
theorem values_apply (k : Fin K) : ((Host.topK ⟨3, ![64, 64, K]⟩ 2 (FloatOps.cmpfTotal .gt) v h).1 (ValueIdx.ix3 b c k) : EReal)
    = v (ValueIdx.ix3 b c (order v b c ⟨k.val, lt_of_lt_of_le k.isLt hK⟩)) := by
  dsimp only [Host.topK]
  refine (extractStridedSlice_apply _ _ h _ (ValueIdx.ix3 b c ⟨k.val, lt_of_lt_of_le k.isLt hK⟩) fun a => ?_).trans ?_
  · match a with
    | ⟨0, _⟩ => exact (Nat.zero_add _).symm
    | ⟨1, _⟩ => exact (Nat.zero_add _).symm
    | ⟨2, _⟩ => exact (Nat.zero_add _).symm
  · unfold Host.sort2
    rw [dif_pos (by decide : 2 < 3)]
    exact congrArg v ((along_last b c _ _).trans (congrArg (ValueIdx.ix3 b c) (sorted_eq v b c _ _)))

/-- Its frequency, as a word. -/
theorem indices_apply (k : Fin K) : (Host.topK ⟨3, ![64, 64, K]⟩ 2 (FloatOps.cmpfTotal .gt) v h).2 (ValueIdx.ix3 b c k)
    = BitVec.ofNat 32 (order v b c ⟨k.val, lt_of_lt_of_le k.isLt hK⟩).val := by
  dsimp only [Host.topK]
  refine (extractStridedSlice_apply _ _ h _ (ValueIdx.ix3 b c ⟨k.val, lt_of_lt_of_le k.isLt hK⟩) fun a => ?_).trans ?_
  · match a with
    | ⟨0, _⟩ => exact (Nat.zero_add _).symm
    | ⟨1, _⟩ => exact (Nat.zero_add _).symm
    | ⟨2, _⟩ => exact (Nat.zero_add _).symm
  · unfold Host.sort2
    rw [dif_pos (by decide : 2 < 3)]
    refine (congrArg (fun i : (⟨3, ![64, 64, 4097]⟩ : Shape).Idx => if hd : 2 < 3 then iotaInDim ⟨3, ![64, 64, 4097]⟩ 32 ⟨2, hd⟩ i else 0#32)
      ((along_last b c _ _).trans (congrArg (ValueIdx.ix3 b c) (sorted_eq v b c _ _)))).trans (dif_pos (by decide))

end Cert.Top

end
-- ==== Proof.Mask.lean ====
/- The reference's mask: the frequencies that the indices of the 32 greatest amplitudes name. -/
module

public import proofs.«01_k».proof.Proof.Gen.ReferenceIdeal.Read
public import proofs.«01_k».proof.Proof.Top
public import Idealize.ShloMosaic.Lib.Routing.OpsPair
public import Idealize.ShloMosaic.Lib.WordCmp
public import Idealize.ShloMosaic.Lib.StableHlo.Predicate

@[expose] public section

set_option maxRecDepth 16384

noncomputable section

namespace Cert.Mask

open Idealize.ShloMosaic Cert.ReferenceIdeal Cert.ReferenceIdeal.Gen Cert.ReferenceIdeal.Read

/-- Writing ones over and over leaves a one where anything was written. -/
theorem fold_ones {ι : Type} (P : ι → Prop) [DecidablePred P] (L : List ι) (a : BitVec 1) :
    L.foldl (fun a n => if P n then 1#1 else a) a = if ∃ n ∈ L, P n then 1#1 else a := by
  induction L generalizing a with
  | nil => simp
  | cons n L ih =>
    rw [List.foldl_cons, ih]
    by_cases h : P n
    · simp [h]
    · simp [h]

/-- A small number, as a word, is not below zero. -/
theorem wrap_small (n : ℕ) (hn : n < 2 ^ 31) (m : BitVec 32) :
    Scalar.select (IntOp.cmpi .slt (BitVec.ofNat 32 n) 0#32) (IntOp.addi (BitVec.ofNat 32 n) m) (BitVec.ofNat 32 n) = BitVec.ofNat 32 n := by
  rw [WordCmp.cmpi_slt_zero, WordCmp.select_decide, if_neg]
  rw [BitVec.toNat_ofNat]
  omega

variable (x : FVec Ideal S64x8192x64 .f32)

/-- The frequency of the `k`-th greatest amplitude of batch `b`'s channel `c`. -/
def top (b c : Fin 64) (k : Fin 32) : Fin 4097 :=
  Top.order (val_main_v26 (F := Ideal) x) b c ⟨k.val, lt_of_lt_of_le k.isLt (by decide)⟩

/-- The batch coordinate of a row of scatter indices is the row's batch. -/
theorem batch_apply (i : S64x64x32x1.Idx) : val_main_v49 (F := Ideal) i = BitVec.ofNat 32 (i 0).val := by
  rw [val_main_v49_apply, val_main_v47_apply, val_main_v36_apply, val_main_v33_apply, val_main_v35_apply, val_main_v32_apply,
    val_main_c_3_apply, val_main_v29_apply, val_main_v28_apply]
  have h : (i 0).val < 64 := (i 0).isLt
  exact wrap_small (i 0).val (by omega) _

/-- The channel coordinate of a row of scatter indices is the row's channel. -/
theorem channel_apply (i : S64x64x32x1.Idx) : val_main_v50 (F := Ideal) i = BitVec.ofNat 32 (i 1).val := by
  rw [val_main_v50_apply, val_main_v48_apply, val_main_v41_apply, val_main_v38_apply, val_main_v40_apply, val_main_v37_apply,
    val_main_c_5_apply, val_main_v31_apply, val_main_v30_apply]
  have h : (i 1).val < 64 := (i 1).isLt
  exact wrap_small (i 1).val (by omega) _

/-- An index that top_k returns is a frequency, as a word. -/
theorem index_apply (b c : Fin 64) (k : Fin 32) :
    val_main_indices (F := Ideal) x (ValueIdx.ix3 b c k) = BitVec.ofNat 32 (top x b c k).val := by
  unfold val_main_indices top
  exact Top.indices_apply (val_main_v26 (F := Ideal) x) b c (K := 32) (by decide) _ k

/-- The frequency coordinate of a row of scatter indices is the index that top_k returns. -/
theorem frequency_apply (b c : Fin 64) (k : Fin 32) :
    val_main_v51 (F := Ideal) x (ValueIdx.ix4 b c k 0) = BitVec.ofNat 32 (top x b c k).val := by
  rw [val_main_v51_apply]
  have e : idx_main_v51 (ValueIdx.ix4 b c k 0) = ValueIdx.ix3 b c k := funext fun a => match a with | ⟨0, _⟩ => rfl | ⟨1, _⟩ => rfl | ⟨2, _⟩ => rfl
  rw [e, val_main_v46_apply, val_main_v43_apply, val_main_v45_apply, val_main_v42_apply, val_main_c_7_apply, index_apply]
  have h := (top x b c k).isLt
  exact wrap_small (top x b c k).val (by omega) _

attribute [local irreducible] top

/-- The columns of the index table. -/
abbrev columns : List ((s : Shape) × (s.Idx → BitVec 32)) :=
  [⟨S64x64x32x1, val_main_v49 (F := Ideal)⟩, ⟨S64x64x32x1, val_main_v50 (F := Ideal)⟩, ⟨S64x64x32x1, val_main_v51 (F := Ideal) x⟩]

/-- The rows of the index table: batch, channel, frequency. -/
theorem table_apply (b c : Fin 64) (k : Fin 32) (q : Fin 3) :
    val_main_v52 (F := Ideal) x (ValueIdx.ix4 b c k q) = BitVec.ofNat 32 (![b.val, c.val, (top x b c k).val] q) := by
  unfold val_main_v52
  match q with
  | ⟨0, _⟩ =>
    have h := concatenate_apply_piece (t := S64x64x32x3) 3 (columns x) concatenates_S64x64x32x1_S64x64x32x1_S64x64x32x1_S64x64x32x3_d3
      (ValueIdx.ix4 b c k 0) 0 (Nat.lt_of_lt_of_eq (by decide : 0 < 3) rfl) S64x64x32x1 (val_main_v49 (F := Ideal)) rfl rfl 0 rfl (ValueIdx.ix4 b c k 0)
      (fun a ha => match a with | ⟨0, _⟩ => rfl | ⟨1, _⟩ => rfl | ⟨2, _⟩ => rfl | ⟨3, _⟩ => absurd rfl ha) rfl
    exact h.trans (batch_apply _)
  | ⟨1, _⟩ =>
    have h := concatenate_apply_piece (t := S64x64x32x3) 3 (columns x) concatenates_S64x64x32x1_S64x64x32x1_S64x64x32x1_S64x64x32x3_d3
      (ValueIdx.ix4 b c k 1) 1 (Nat.lt_of_lt_of_eq (by decide : 1 < 3) rfl) S64x64x32x1 (val_main_v50 (F := Ideal)) rfl rfl 1 rfl (ValueIdx.ix4 b c k 0)
      (fun a ha => match a with | ⟨0, _⟩ => rfl | ⟨1, _⟩ => rfl | ⟨2, _⟩ => rfl | ⟨3, _⟩ => absurd rfl ha) rfl
    exact h.trans (channel_apply _)
  | ⟨2, _⟩ =>
    have h := concatenate_apply_piece (t := S64x64x32x3) 3 (columns x) concatenates_S64x64x32x1_S64x64x32x1_S64x64x32x1_S64x64x32x3_d3
      (ValueIdx.ix4 b c k 2) 2 (Nat.lt_of_lt_of_eq (by decide : 2 < 3) rfl) S64x64x32x1 (val_main_v51 (F := Ideal) x) rfl rfl 2 rfl (ValueIdx.ix4 b c k 0)
      (fun a ha => match a with | ⟨0, _⟩ => rfl | ⟨1, _⟩ => rfl | ⟨2, _⟩ => rfl | ⟨3, _⟩ => absurd rfl ha) rfl
    exact h.trans (frequency_apply x b c k)

/-- The dimensions of the scatter. -/
abbrev dims : ScatterDims S64x64x4097 S64x64x32x3 S64x64x32 := scatter_S64x64x4097_S64x64x32x3_S64x64x32_n_012_012_3

/-- The entry of the index table from which a coordinate of an update's target is read. -/
theorem row_eq (b c : Fin 64) (k : Fin 32) (q : Fin 3) (hq : q ∈ dims.scatterDimsToOperandDims) :
    dims.siIdx (ValueIdx.ix3 b c k) ⟨dims.scatterDimsToOperandDims.idxOf q, List.idxOf_lt_length_iff.2 hq⟩ = ValueIdx.ix4 b c k q := by
  match q with
  | ⟨0, _⟩ => exact funext fun a => match a with | ⟨0, _⟩ => rfl | ⟨1, _⟩ => rfl | ⟨2, _⟩ => rfl | ⟨3, _⟩ => rfl
  | ⟨1, _⟩ => exact funext fun a => match a with | ⟨0, _⟩ => rfl | ⟨1, _⟩ => rfl | ⟨2, _⟩ => rfl | ⟨3, _⟩ => rfl
  | ⟨2, _⟩ => exact funext fun a => match a with | ⟨0, _⟩ => rfl | ⟨1, _⟩ => rfl | ⟨2, _⟩ => rfl | ⟨3, _⟩ => rfl

/-- The target of an update, coordinate by coordinate. -/
theorem start_apply (b c : Fin 64) (k : Fin 32) (q : Fin 3) :
    dims.start (ValueIdx.ix3 b c k) (val_main_v52 (F := Ideal) x) q = ((![b.val, c.val, (top x b c k).val] q : ℕ) : ℤ) := by
  have hq : q ∈ dims.scatterDimsToOperandDims := by
    show q ∈ ([0, 1, 2] : List (Fin 3))
    fin_cases q <;> simp
  unfold ScatterDims.start
  rw [dif_pos hq, row_eq b c k q hq, table_apply]
  refine StableHlo.Predicate.toInt_ofNat_small _ ?_
  have h := (top x b c k).isLt
  match q with
  | ⟨0, _⟩ => show b.val < 2 ^ 31; omega
  | ⟨1, _⟩ => show c.val < 2 ^ 31; omega
  | ⟨2, _⟩ => show (top x b c k).val < 2 ^ 31; omega

/-- An update writes a single entry: it has no window. -/
theorem window_apply (j : S64x64x32.Idx) (q : Fin 3) : dims.window j q = 0 := by
  unfold ScatterDims.window
  exact dif_neg ((by decide : ∀ q : Fin 3, q ∉ dims.sKept) q)

/-- Where an update lands: at the frequency its index names. -/
theorem lands (b c : Fin 64) (k : Fin 32) :
    dims.resultIdx? (ValueIdx.ix3 b c k) (val_main_v52 (F := Ideal) x) = some (ValueIdx.ix3 b c (top x b c k)) := by
  unfold ScatterDims.resultIdx?
  have h : ∀ a : Fin 3, 0 ≤ dims.start (ValueIdx.ix3 b c k) (val_main_v52 (F := Ideal) x) a + dims.window (ValueIdx.ix3 b c k) a
      ∧ dims.start (ValueIdx.ix3 b c k) (val_main_v52 (F := Ideal) x) a + dims.window (ValueIdx.ix3 b c k) a < S64x64x4097.size a := by
    intro a
    rw [start_apply, window_apply]
    have h := (top x b c k).isLt
    match a with
    | ⟨0, _⟩ => show (0 : ℤ) ≤ (b.val : ℤ) + (0 : ℕ) ∧ (b.val : ℤ) + (0 : ℕ) < (64 : ℕ); omega
    | ⟨1, _⟩ => show (0 : ℤ) ≤ (c.val : ℤ) + (0 : ℕ) ∧ (c.val : ℤ) + (0 : ℕ) < (64 : ℕ); omega
    | ⟨2, _⟩ => show (0 : ℤ) ≤ ((top x b c k).val : ℤ) + (0 : ℕ) ∧ ((top x b c k).val : ℤ) + (0 : ℕ) < (4097 : ℕ); omega
  rw [dif_pos h]
  refine congrArg some (funext fun a => Fin.ext ?_)
  show (dims.start (ValueIdx.ix3 b c k) (val_main_v52 (F := Ideal) x) a + dims.window (ValueIdx.ix3 b c k) a).toNat = _
  rw [start_apply, window_apply]
  match a with
  | ⟨0, _⟩ => show ((b.val : ℤ) + (0 : ℕ)).toNat = b.val; omega
  | ⟨1, _⟩ => show ((c.val : ℤ) + (0 : ℕ)).toNat = c.val; omega
  | ⟨2, _⟩ => show ((((top x b c k).val : ℕ) : ℤ) + (0 : ℕ)).toNat = (top x b c k).val; omega

/-- An update that lands at a frequency of a series is one of that series, and names that frequency. -/
theorem landed (b c : Fin 64) (f : Fin 4097) (j : S64x64x32.Idx)
    (h : dims.resultIdx? j (val_main_v52 (F := Ideal) x) = some (ValueIdx.ix3 b c f)) : ∃ k, top x b c k = f := by
  obtain ⟨b', c', k, rfl⟩ : ∃ (b' c' : Fin 64) (k : Fin 32), j = ValueIdx.ix3 b' c' k := ⟨j 0, j 1, j 2, ValueIdx.eq_ix3 j⟩
  rw [lands] at h
  have e := Option.some.inj h
  have e0 : b' = b := congrFun e 0
  have e1 : c' = c := congrFun e 1
  have e2 : top x b' c' k = f := congrFun e 2
  subst e0
  subst e1
  exact ⟨k, e2⟩

/-- The mask is set at the frequencies of the 32 greatest amplitudes and nowhere else. -/
theorem mask_apply (b c : Fin 64) (f : Fin 4097) :
    val_main_v54 (F := Ideal) x (ValueIdx.ix3 b c f) = if ∃ k, top x b c k = f then 1#1 else 0#1 := by
  classical
  unfold val_main_v54
  rw [Routing.scatter_at]
  refine (congrArg (fun g => List.foldl g _ _) (funext fun a => funext fun n => ?_)).trans
    ((fold_ones (fun n => dims.resultIdx? (S64x64x32.rowMajor.symm n) (val_main_v52 (F := Ideal) x) = some (ValueIdx.ix3 b c f)) _ _).trans ?_)
  · exact if_congr Iff.rfl ((val_main_v53_apply _).trans (val_main_c_9_apply _)) rfl
  · have hz : val_main_v27 (F := Ideal) (ValueIdx.ix3 b c f) = 0#1 := (val_main_v27_apply _).trans (val_main_c_2_apply _)
    rw [hz]
    by_cases h : ∃ k, top x b c k = f
    · rw [if_pos h, if_pos]
      obtain ⟨k, hk⟩ := h
      refine ⟨S64x64x32.rowMajor (ValueIdx.ix3 b c k), List.mem_finRange _, ?_⟩
      rw [Equiv.symm_apply_apply, lands, hk]
    · rw [if_neg h, if_neg]
      rintro ⟨n, -, hn⟩
      exact h (landed x b c f _ hn)

end Cert.Mask

end
-- ==== Proof.RefValue.lean ====
/- The reference's result as a real number: the weighted inverse sums over the frequencies of the 32 greatest amplitudes. -/
module

public import proofs.«01_k».proof.Proof.Spectrum
public import proofs.«01_k».proof.Proof.Mask
public import proofs.«01_k».proof.Proof.Weights

@[expose] public section

set_option maxRecDepth 16384

noncomputable section

namespace Cert.RefValue

open Idealize.ShloMosaic Cert.ReferenceIdeal Cert.ReferenceIdeal.Gen Cert.ReferenceIdeal.Read Cert.Fourier Cert.Tables Cert.Series
open scoped BigOperators

open scoped Classical in
/-- `r` where `p` holds, else 0. -/
def pick (p : Prop) (r : ℝ) : ℝ := if p then r else 0

/-- A picked term that is in. -/
theorem pick_pos {p : Prop} (h : p) (r : ℝ) : pick p r = r := if_pos h
/-- A picked term that is out. -/
theorem pick_neg {p : Prop} (h : ¬p) (r : ℝ) : pick p r = 0 := if_neg h

variable (x : Input)

/-- Frequency `f` is one of the 32 of greatest amplitude. -/
def picked (b ch : Fin 64) (f : ℕ) : Prop := ∃ k, (Mask.top x b ch k).val = f

/-- Selecting by the mask picks the terms of the 32 first frequencies. -/
theorem select_mask (b ch : Fin 64) (f : Fin 4097) (u z : EReal) (r : ℝ) (hu : u = (r : EReal)) (hz : z = 0) :
    Scalar.select (val_main_v54 (F := Ideal) x (ValueIdx.ix3 b ch f)) u z = ((pick (picked x b ch f.val) r : ℝ) : EReal) := by
  rw [Mask.mask_apply]
  by_cases h : ∃ k, Mask.top x b ch k = f
  · rw [if_pos h, pick_pos (by obtain ⟨k, hk⟩ := h; exact ⟨k, congrArg Fin.val hk⟩), ← hu]
    rfl
  · rw [if_neg h, pick_neg (by rintro ⟨k, hk⟩; exact h ⟨k, Fin.ext hk⟩), EReal.coe_zero, ← hz]
    rfl

/-- The reference's choice between the words of 1 and 2 is the weight. -/
theorem weight_words (f : ℕ) (hf : f < 4097) :
    Scalar.select (IntOp.ori (IntOp.cmpi .eq (BitVec.ofNat 32 f) 0#32) (IntOp.cmpi .eq (BitVec.ofNat 32 f) 4096#32))
      (Ideal.ofBits .f32 0x3F800000#32) (Ideal.ofBits .f32 0x40000000#32) = ((weight f : ℝ) : EReal) := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := two_word
  have e0 : BitVec.ofNat 32 f = 0#32 ↔ f = 0 := by
    constructor
    · intro h; have := congrArg BitVec.toNat h; simp at this; omega
    · rintro rfl; rfl
  have e1 : BitVec.ofNat 32 f = 4096#32 ↔ f = 4096 := by
    constructor
    · intro h; have := congrArg BitVec.toNat h; simp at this; omega
    · rintro rfl; rfl
  unfold weight
  rw [h1, h2]
  by_cases h0 : f = 0
  · subst h0; simp [IntOp.cmpi, IntOp.ori, Scalar.select]
  · by_cases h4 : f = 4096
    · subst h4; simp [IntOp.cmpi, IntOp.ori, Scalar.select]
    · rw [if_neg (by omega), if_pos (by omega)]
      have b0 : (BitVec.ofNat 32 f == 0#32) = false := beq_eq_false_iff_ne.mpr fun h => h0 (e0.mp h)
      have b1 : (BitVec.ofNat 32 f == 4096#32) = false := beq_eq_false_iff_ne.mpr fun h => h4 (e1.mp h)
      simp only [IntOp.cmpi, IntOp.ori, Scalar.select, b0, b1]
      rfl

/-- The weights. -/
theorem weight_apply (i : S4097.Idx) : (val_main_v63 (F := Ideal) i : EReal) = ((weight (i 0).val : ℝ) : EReal) := by
  rw [val_main_v63_apply, val_main_v62_apply, val_main_v59_apply, val_main_v61_apply, val_main_v57_apply, val_main_v58_apply,
    val_main_v60_apply, val_main_c_12_apply, val_main_c_13_apply, val_main_call2_v0_apply, val_main_call2_v1_apply,
    val_main_cst_14_apply, val_main_cst_15_apply]
  exact weight_words (i 0).val (i 0).isLt

/-- The weight of the real part, at an entry. -/
theorem re_weight_apply (b ch : Fin 64) (f : Fin 4097) : (val_main_v66 (F := Ideal) (ValueIdx.ix3 b ch f) : EReal) = ((weight f.val : ℝ) : EReal) := by
  rw [val_main_v66_apply, val_main_v65_apply, val_main_v64_apply]
  exact weight_apply _

/-- The weight of the imaginary part, at an entry. -/
theorem im_weight_apply (b ch : Fin 64) (f : Fin 4097) : (val_main_v71 (F := Ideal) (ValueIdx.ix3 b ch f) : EReal) = ((weight f.val : ℝ) : EReal) := by
  rw [val_main_v71_apply, val_main_v70_apply, val_main_v69_apply]
  exact weight_apply _

/-- The value that replaces a masked real part is zero. -/
theorem zero_re (i : S64x64x4097.Idx) : (val_main_call0_v1 (F := Ideal) i : EReal) = 0 := by
  rw [val_main_call0_v1_apply, val_main_call0_v0_apply, val_main_cst_10_apply]
  exact Ideal.ofBits_zero_f32

/-- The value that replaces a masked imaginary part is zero. -/
theorem zero_im (i : S64x64x4097.Idx) : (val_main_call1_v1 (F := Ideal) i : EReal) = 0 := by
  rw [val_main_call1_v1_apply, val_main_call1_v0_apply, val_main_cst_11_apply]
  exact Ideal.ofBits_zero_f32

variable {x} (hx : IsReal x)
include hx

/-- The weighted cosine sums at the chosen frequencies. -/
theorem chosen_re (b ch : Fin 64) (f : Fin 4097) : (val_main_v67 (F := Ideal) x (ValueIdx.ix3 b ch f) : EReal)
    = ((weight f.val * pick (picked x b ch f.val) (re x b ch f.val) : ℝ) : EReal) := by
  rw [val_main_v67_apply, val_main_v55_apply]
  exact (congrArg₂ (fun p q : EReal => p * q) (re_weight_apply b ch f)
    (select_mask x b ch f _ _ _ (Spectrum.re_apply hx b ch f) (zero_re _))).trans (EReal.coe_mul _ _).symm

/-- The weighted sine sums at the chosen frequencies. -/
theorem chosen_im (b ch : Fin 64) (f : Fin 4097) : (val_main_v72 (F := Ideal) x (ValueIdx.ix3 b ch f) : EReal)
    = ((weight f.val * pick (picked x b ch f.val) (im x b ch f.val) : ℝ) : EReal) := by
  rw [val_main_v72_apply, val_main_v56_apply]
  exact (congrArg₂ (fun p q : EReal => p * q) (im_weight_apply b ch f)
    (select_mask x b ch f _ _ _ (Spectrum.im_apply hx b ch f) (zero_im _))).trans (EReal.coe_mul _ _).symm

/-- The cosine sum of the masked spectrum, at a sample. -/
theorem back_re (b ch : Fin 64) (t : Fin 8192) : (val_main_v68 (F := Ideal) x (ValueIdx.ix3 b ch t) : EReal)
    = ((∑ f : Fin 4097, weight f.val * pick (picked x b ch f.val) (re x b ch f.val) * cosN 8192 (t.val * f.val) : ℝ) : EReal) := by
  rw [val_main_v68_apply, coe_sum]
  refine Finset.sum_congr rfl fun f _ => ?_
  have e1 : lidx_main_v68 (ValueIdx.ix3 b ch t) f = ValueIdx.ix3 b ch f :=
    funext fun a => match a with | ⟨0, _⟩ => rfl | ⟨1, _⟩ => rfl | ⟨2, _⟩ => rfl
  have e2 : ridx_main_v68 (ValueIdx.ix3 b ch t) f = ValueIdx.ix2 t f := funext fun a => match a with | ⟨0, _⟩ => rfl | ⟨1, _⟩ => rfl
  rw [e1, e2, chosen_re hx, Spectrum.cos_apply, EReal.coe_mul _ (cosN _ _)]

/-- The sine sum of the masked spectrum, at a sample. -/
theorem back_im (b ch : Fin 64) (t : Fin 8192) : (val_main_v73 (F := Ideal) x (ValueIdx.ix3 b ch t) : EReal)
    = ((∑ f : Fin 4097, weight f.val * pick (picked x b ch f.val) (im x b ch f.val) * sinN 8192 (t.val * f.val) : ℝ) : EReal) := by
  rw [val_main_v73_apply, coe_sum]
  refine Finset.sum_congr rfl fun f _ => ?_
  have e1 : lidx_main_v73 (ValueIdx.ix3 b ch t) f = ValueIdx.ix3 b ch f :=
    funext fun a => match a with | ⟨0, _⟩ => rfl | ⟨1, _⟩ => rfl | ⟨2, _⟩ => rfl
  have e2 : ridx_main_v73 (ValueIdx.ix3 b ch t) f = ValueIdx.ix2 t f := funext fun a => match a with | ⟨0, _⟩ => rfl | ⟨1, _⟩ => rfl
  rw [e1, e2, chosen_im hx, Spectrum.sin_apply, EReal.coe_mul _ (sinN _ _)]

/-- Sample `t` of the reference's filtered series. -/
theorem value (b : Fin 64) (t : Fin 8192) (ch : Fin 64) : (val_main_v77 (F := Ideal) x (ValueIdx.ix3 b t ch) : EReal)
    = (((∑ f : Fin 4097, weight f.val * pick (picked x b ch f.val) (re x b ch f.val) * cosN 8192 (t.val * f.val)
        - ∑ f : Fin 4097, weight f.val * pick (picked x b ch f.val) (im x b ch f.val) * sinN 8192 (t.val * f.val)) / 8192 : ℝ) : EReal) := by
  rw [val_main_v77_apply]
  have e : idx_main_v77 (ValueIdx.ix3 b t ch) = ValueIdx.ix3 b ch t := funext fun a => match a with | ⟨0, _⟩ => rfl | ⟨1, _⟩ => rfl | ⟨2, _⟩ => rfl
  rw [e, val_main_v76_apply, val_main_v74_apply, val_main_v75_apply, val_main_cst_16_apply]
  show Ideal.div ((val_main_v68 (F := Ideal) x (ValueIdx.ix3 b ch t) : EReal) - val_main_v73 (F := Ideal) x (ValueIdx.ix3 b ch t))
    (Ideal.ofBits .f32 0x46000000#32) = _
  rw [back_re hx, back_im hx, ← EReal.coe_sub]
  refine (congrArg (Ideal.div _) word_8192).trans ?_
  rw [div_real _ _ (by norm_num)]
  norm_num

end Cert.RefValue

end
-- ==== Proof.Pre.lean ====
/- What the precondition says: the input is finite, and in every series either the 33 greatest amplitudes strictly decrease
   or the 33rd of them is zero. -/
module

public import proofs.«01_k».proof.Defs
public import proofs.«01_k».proof.Proof.Gen.Pre_separated
public import proofs.«01_k».proof.Proof.Gen.ReferenceIdeal.Read
public import proofs.«01_k».proof.Proof.Top
public import proofs.«01_k».proof.Proof.Series
public import Idealize.ShloMosaic.Lib.ReduceAll
public import Idealize.ShloMosaic.Lib.Affine

@[expose] public section

set_option maxRecDepth 16384

noncomputable section

namespace Cert.Pre

open Idealize.ShloMosaic Cert.Pre_separated Cert.Pre_separated.Gen Cert.Series

/-- Every entry is below infinity in size. -/
def finite (x : Input) : IVec S64x8192x64 1 :=
  cmpf .olt (Host.absf x) (broadcastInDim S64x8192x64 ![] bcast_S_S64x8192x64 (constant (F := Ideal) S_ .f32 0x7F800000#32))

/-- The 33 greatest of every series. -/
def greatest (v : Top.Amps) : FVec Ideal S64x64x33 .f32 :=
  (Host.topK S64x64x33 2 (FloatOps.cmpfTotal .gt) v sliceFits_S64x64x4097_S64x64x33).1

/-- Each of the first 32 of them is above the next. -/
def falling (u : FVec Ideal S64x64x33 .f32) : IVec S64x64x32 1 :=
  cmpf .ogt (extractStridedSlice S64x64x32 ![0, 0, 0] u slices_S64x64x33_S64x64x32_0_0_0)
    (extractStridedSlice S64x64x32 ![0, 0, 1] u slices_S64x64x33_S64x64x32_0_0_1)

/-- The last of them is zero. -/
def vanishing (u : FVec Ideal S64x64x33 .f32) : IVec S64x64x32 1 :=
  broadcastInDim S64x64x32 ![0, 1, 2] bcast_S64x64x1_S64x64x32_0_1_2
    (cmpf .oeq (extractStridedSlice S64x64x1 ![0, 0, 32] u slices_S64x64x33_S64x64x1_0_0_32)
      (broadcastInDim S64x64x1 ![] bcast_S_S64x64x1 (constant (F := Ideal) S_ .f32 0x00000000#32)))

/-- The precondition in these words, over the reference's amplitudes. -/
theorem fn_eq (x : Input) : Cert.Pre_separated.fn (F := Ideal) x
    = andi (Host.reduce IntOp.andi (finite x) (constantI S_ 1 1#1) reducesTo_S64x8192x64_S_d0_1_2 h_S_)
      (Host.reduce IntOp.andi (ori (falling (greatest (Cert.ReferenceIdeal.Read.val_main_v26 (F := Ideal) x)))
        (vanishing (greatest (Cert.ReferenceIdeal.Read.val_main_v26 (F := Ideal) x)))) (constantI S_ 1 1#1) reducesTo_S64x64x32_S_d0_1_2 h_S_) := by
  unfold Cert.Pre_separated.fn Cert.Pre_separated.fn_part1 Cert.Pre_separated.fn_part2
  rfl

/-- The word of infinity. -/
theorem word_inf : Ideal.ofBits .f32 0x7F800000#32 = (⊤ : EReal) := by
  simp [Ideal.ofBits, Ideal.ieee]

/-- An array whose entries all lie below infinity in absolute value is an array of reals. -/
theorem isReal_of_finite (x : Input) (h : ∀ i, finite x i = 1#1) : IsReal x := by
  intro b t ch
  have e := h (ValueIdx.ix3 b t ch)
  have e' : Ideal.cmp .olt (max (x (ValueIdx.ix3 b t ch) : EReal) (-(x (ValueIdx.ix3 b t ch) : EReal))) (Ideal.ofBits .f32 0x7F800000#32) = 1#1 := e
  rw [word_inf] at e'
  generalize x (ValueIdx.ix3 b t ch) = r at e' ⊢
  revert e'
  induction r using EReal.rec with
  | bot => simp [Ideal.cmp]
  | coe r => intro _; rfl
  | top => simp [Ideal.cmp]

/-- Place `k` of the 33 greatest is the amplitude of frequency `k` in the order. -/
theorem greatest_apply (v : Top.Amps) (b c : Fin 64) (k : Fin 33) :
    (greatest v (ValueIdx.ix3 b c k) : EReal) = v (ValueIdx.ix3 b c (Top.order v b c ⟨k.val, lt_of_lt_of_le k.isLt (by decide)⟩)) := by
  unfold greatest
  exact Top.values_apply v b c (K := 33) (by decide) _ k

/-- Where the first test holds, place `k` exceeds place `k + 1`. -/
theorem falling_apply (u : FVec Ideal S64x64x33 .f32) (b c : Fin 64) (k : Fin 32) (h : falling u (ValueIdx.ix3 b c k) = 1#1) :
    (u (ValueIdx.ix3 b c ⟨k.val + 1, by omega⟩) : EReal) < u (ValueIdx.ix3 b c ⟨k.val, by omega⟩) := by
  have e0 : extractStridedSlice S64x64x32 ![0, 0, 0] u slices_S64x64x33_S64x64x32_0_0_0 (ValueIdx.ix3 b c k) = u (ValueIdx.ix3 b c ⟨k.val, by omega⟩) :=
    extractStridedSlice_apply _ _ _ _ _ fun a => match a with
      | ⟨0, _⟩ => (Nat.zero_add _).symm
      | ⟨1, _⟩ => (Nat.zero_add _).symm
      | ⟨2, _⟩ => (Nat.zero_add _).symm
  have e1 : extractStridedSlice S64x64x32 ![0, 0, 1] u slices_S64x64x33_S64x64x32_0_0_1 (ValueIdx.ix3 b c k) = u (ValueIdx.ix3 b c ⟨k.val + 1, by omega⟩) :=
    extractStridedSlice_apply _ _ _ _ _ fun a => match a with
      | ⟨0, _⟩ => (Nat.zero_add _).symm
      | ⟨1, _⟩ => (Nat.zero_add _).symm
      | ⟨2, _⟩ => Nat.add_comm _ _
  have e : Ideal.cmp .ogt (extractStridedSlice S64x64x32 ![0, 0, 0] u slices_S64x64x33_S64x64x32_0_0_0 (ValueIdx.ix3 b c k))
      (extractStridedSlice S64x64x32 ![0, 0, 1] u slices_S64x64x33_S64x64x32_0_0_1 (ValueIdx.ix3 b c k)) = 1#1 := h
  rw [e0, e1] at e
  by_contra hc
  simp [Ideal.cmp, hc] at e

/-- Where the second test holds, the last of the 33 is zero. -/
theorem vanishing_apply (u : FVec Ideal S64x64x33 .f32) (b c : Fin 64) (k : Fin 32) (h : vanishing u (ValueIdx.ix3 b c k) = 1#1) :
    (u (ValueIdx.ix3 b c 32) : EReal) = 0 := by
  unfold vanishing at h
  rw [broadcastInDim_apply _ bcast_S64x64x1_S64x64x32_0_1_2 _ (ValueIdx.ix3 b c k) (ValueIdx.ix3 b c 0) (fun a => match a with
    | ⟨0, _⟩ => by show b.val = if (64 : Nat) = 1 then 0 else b.val; rw [if_neg (by decide)]
    | ⟨1, _⟩ => by show c.val = if (64 : Nat) = 1 then 0 else c.val; rw [if_neg (by decide)]
    | ⟨2, _⟩ => by show 0 = if (1 : Nat) = 1 then 0 else k.val; rw [if_pos rfl])] at h
  have e0 : extractStridedSlice S64x64x1 ![0, 0, 32] u slices_S64x64x33_S64x64x1_0_0_32 (ValueIdx.ix3 b c 0) = u (ValueIdx.ix3 b c 32) :=
    extractStridedSlice_apply _ _ _ _ _ fun a => match a with
      | ⟨0, _⟩ => (Nat.zero_add _).symm
      | ⟨1, _⟩ => (Nat.zero_add _).symm
      | ⟨2, _⟩ => rfl
  have e : Ideal.cmp .oeq (extractStridedSlice S64x64x1 ![0, 0, 32] u slices_S64x64x33_S64x64x1_0_0_32 (ValueIdx.ix3 b c 0))
      (Ideal.ofBits .f32 0x00000000#32) = 1#1 := h
  have hz : Ideal.ofBits .f32 0x00000000#32 = (0 : EReal) := by simp [Ideal.ofBits, Ideal.ieee]
  rw [e0, hz] at e
  by_contra hc
  simp [Ideal.cmp, hc] at e

/-- The amplitude in place `k` of the order. -/
def ranked (v : Top.Amps) (b c : Fin 64) (k : Fin 33) : EReal :=
  v (ValueIdx.ix3 b c (Top.order v b c ⟨k.val, lt_of_lt_of_le k.isLt (by decide)⟩))

/-- What the precondition gives of one series. -/
theorem separated (x : Input) (h : Cert.Pre_separated.fn (F := Ideal) x = fun _ => 1#1) : IsReal x ∧ ∀ b c : Fin 64,
    (∀ k : Fin 32, ranked (Cert.ReferenceIdeal.Read.val_main_v26 (F := Ideal) x) b c k.succ
        < ranked (Cert.ReferenceIdeal.Read.val_main_v26 (F := Ideal) x) b c k.castSucc)
      ∨ ranked (Cert.ReferenceIdeal.Read.val_main_v26 (F := Ideal) x) b c 32 = 0 := by
  rw [fn_eq] at h
  generalize Cert.ReferenceIdeal.Read.val_main_v26 (F := Ideal) x = v at h ⊢
  have h0 := congrFun h (fun a => a.elim0)
  obtain ⟨h1, h2⟩ := IntOp.andi_eq_one.mp h0
  haveI : Subsingleton S_.Idx := ⟨fun i j => funext fun a => a.elim0⟩
  refine ⟨isReal_of_finite x fun i => Host.reduce_andi_all _ _ _ _ _ h1 i, fun b c => ?_⟩
  have h3 := fun k : Fin 32 => IntOp.ori_eq_one.mp (Host.reduce_andi_all _ _ _ _ _ h2 (ValueIdx.ix3 b c k))
  by_cases hv : ∃ k : Fin 32, vanishing (greatest v) (ValueIdx.ix3 b c k) = 1#1
  · right
    obtain ⟨k, hk⟩ := hv
    exact (greatest_apply v b c 32).symm.trans (vanishing_apply _ b c k hk)
  · left
    intro k
    have hk := falling_apply _ b c k ((h3 k).resolve_right fun e => hv ⟨k, e⟩)
    rw [greatest_apply, greatest_apply] at hk
    exact hk

end Cert.Pre

end
-- ==== Proof.Equation.lean ====
/- The kernel's filtered series is the reference's, under the precondition. -/
module

public import proofs.«01_k».proof.Proof.Keep
public import proofs.«01_k».proof.Proof.RefValue
public import proofs.«01_k».proof.Proof.Pre

@[expose] public section

set_option maxRecDepth 16384

noncomputable section

namespace Cert.Equation

open Idealize.ShloMosaic Cert.Fourier Cert.Tables Cert.Series Cert.Block Cert.Array Cert.Keep Cert.RefValue
open scoped BigOperators

/-- The reference's amplitudes. -/
abbrev amps (x : Input) : Top.Amps := Cert.ReferenceIdeal.Read.val_main_v26 (F := Ideal) x

/-- The kernel's spectrum is the reference's. -/
theorem sRe_grid (x : Input) (b ch : Fin 64) (f1 : Fin 64) (f2 : Fin 128) : sRe (grid x b ch) f1 f2 = re x b ch (64 * f2.val + f1.val) :=
  sRe_eq (grid x b ch) (series x b ch) (fun _ _ => rfl) f1 f2

/-- The imaginary part that the kernel's two stages compute is the spectrum's. -/
theorem sIm_grid (x : Input) (b ch : Fin 64) (f1 : Fin 64) (f2 : Fin 128) : sIm (grid x b ch) f1 f2 = im x b ch (64 * f2.val + f1.val) :=
  sIm_eq (grid x b ch) (series x b ch) (fun _ _ => rfl) f1 f2

/-- The kernel's squared amplitude at a place of its table is the power of the frequency of that place. -/
theorem power_grid (x : Input) (b ch : Fin 64) (f1 : Fin 64) (f2 : Fin 128) :
    power (grid x b ch) f1 f2 = pow x b ch (64 * f2.val + f1.val) := by
  unfold power pow
  rw [sRe_grid, sIm_grid]

variable {x : Input} (hx : IsReal x) (b ch : Fin 64)
include hx

/-- Amplitudes compare as powers do. -/
theorem ranked_apply (k : Fin 33) : Pre.ranked (amps x) b ch k
    = ((Real.sqrt (pow x b ch (Top.order (amps x) b ch ⟨k.val, lt_of_lt_of_le k.isLt (by decide)⟩).val) : ℝ) : EReal) :=
  Spectrum.amp_apply hx b ch _

/-- The order of the amplitudes is an order of the powers. -/
theorem ordered : Ordered (grid x b ch) (pow x b ch) (Top.order (amps x) b ch) where
  power := power_grid x b ch
  nonneg := pow_nonneg x b ch
  inj := Top.order_injective _ b ch
  surj := Top.order_surjective _ b ch
  anti i j hij := by
    have h := ((Spectrum.amp_apply hx b ch _).symm.le.trans (Top.order_le (amps x) b ch i j hij)).trans (Spectrum.amp_apply hx b ch _).le
    exact (Real.sqrt_le_sqrt_iff (pow_nonneg x b ch _)).mp (EReal.coe_le_coe_iff.mp h)

variable (hs : (∀ k : Fin 32, Pre.ranked (amps x) b ch k.succ < Pre.ranked (amps x) b ch k.castSucc)
  ∨ Pre.ranked (amps x) b ch 32 = 0)
include hs

/-- At every frequency up to 4096 that is not among the first 32, the kernel's weight or the power is zero. -/
theorem dropped (f1 : Fin 64) (f2 : Fin 128) (hl : 64 * f2.val + f1.val < 4097) (h : ¬picked x b ch (64 * f2.val + f1.val)) :
    kept weights (grid x b ch) f1 f2 = 0 ∨ pow x b ch (64 * f2.val + f1.val) = 0 := by
  have H := ordered hx b ch
  have hn : ∀ k : Fin 32, (Top.order (amps x) b ch (place k.castSucc)).val ≠ 64 * f2.val + f1.val := fun k hk => h ⟨k, by
    unfold Mask.top
    exact hk⟩
  rcases hs with hs | hs
  · left
    refine kept_other H (fun k => ?_) f1 f2 hl hn
    have e := hs k
    rw [ranked_apply hx, ranked_apply hx, EReal.coe_lt_coe_iff] at e
    exact (Real.sqrt_lt_sqrt_iff (pow_nonneg x b ch _)).mp e
  · right
    refine other_zero H ?_ _ hl hn
    rw [ranked_apply hx, ← EReal.coe_zero, EReal.coe_eq_coe_iff] at hs
    exact (Real.sqrt_eq_zero (pow_nonneg x b ch _)).mp hs

/-- What the kernel keeps of a part of the spectrum is what the reference keeps, for a part that vanishes with the power. -/
theorem kept_part (s : ℕ → ℝ) (hz : ∀ f, pow x b ch f = 0 → s f = 0) (f1 : Fin 64) (f2 : Fin 128) :
    kept weights (grid x b ch) f1 f2 * s (64 * f2.val + f1.val)
      = weight (64 * f2.val + f1.val) * pick (picked x b ch (64 * f2.val + f1.val)) (s (64 * f2.val + f1.val)) := by
  by_cases hl : 64 * f2.val + f1.val < 4097
  · by_cases h : picked x b ch (64 * f2.val + f1.val)
    · rw [pick_pos h]
      obtain ⟨k, hk⟩ := h
      unfold Mask.top at hk
      rw [kept_best (ordered hx b ch) k f1 f2 hk]
      rfl
    · rw [pick_neg h, mul_zero]
      rcases dropped hx b ch hs f1 f2 hl h with e | e
      · rw [e, zero_mul]
      · rw [hz _ e, mul_zero]
  · rw [kept_above f1 f2 (by omega), weight_above _ (by omega), zero_mul, zero_mul]

/-- Sample `128 t1 + t2` of the kernel's filtered series, as the reference computes it. -/
theorem filtered_eq (t2 : Fin 128) (t1 : Fin 64) (t : ℕ) (ht : t = 128 * t1.val + t2.val) : filtered weights (grid x b ch) t2 t1
    = (∑ f : Fin 4097, weight f.val * pick (picked x b ch f.val) (re x b ch f.val) * cosN 8192 (t * f.val)
        - ∑ f : Fin 4097, weight f.val * pick (picked x b ch f.val) (im x b ch f.val) * sinN 8192 (t * f.val)) / 8192 := by
  unfold filtered
  rw [yRe_eq (fun f => weight f * pick (picked x b ch f) (re x b ch f)) (fun f => weight f * pick (picked x b ch f) (im x b ch f)) _ _
    (fun f1 f2 => by
      rw [sRe_grid]
      exact kept_part hx b ch hs (re x b ch) (fun f h => by
        have : re x b ch f * re x b ch f + im x b ch f * im x b ch f = 0 := h
        nlinarith [mul_self_nonneg (re x b ch f), mul_self_nonneg (im x b ch f)]) f1 f2)
    (fun f1 f2 => by
      rw [sIm_grid]
      exact kept_part hx b ch hs (im x b ch) (fun f h => by
        have : re x b ch f * re x b ch f + im x b ch f * im x b ch f = 0 := h
        nlinarith [mul_self_nonneg (re x b ch f), mul_self_nonneg (im x b ch f)]) f1 f2), ← ht]
  rw [sum_half (fun f => weight f * pick (picked x b ch f) (re x b ch f) * cosN 8192 (t * f)) fun f hf => by
      rw [weight_above f hf, zero_mul, zero_mul],
    sum_half (fun f => weight f * pick (picked x b ch f) (im x b ch f) * sinN 8192 (t * f)) fun f hf => by
      rw [weight_above f hf, zero_mul, zero_mul]]

end Cert.Equation

end
-- ==== Proof.Final.lean ====
/- The two results are equal, sample by sample. -/
module

public import proofs.«01_k».proof.Proof.Run
public import proofs.«01_k».proof.Proof.Equation

@[expose] public section

set_option maxRecDepth 16384

noncomputable section

namespace Cert.Final

open Idealize.ShloMosaic Cert.KernelIdeal Cert.KernelIdeal.Gen Cert.Tables Cert.Series Cert.Block Cert.Array

variable (m : (ℓ : Loc nD τ sig) → Buf (Elt Ideal) ℓ)

/-- Under the precondition the kernel's result is the reference's on the same input. -/
theorem results_eq (c : Dev nD) (h : Cert.Pre_separated.fn (F := Ideal) (input m c) = fun _ => 1#1) :
    (Pipeline.afterTail₀ cfgs (dats m) 0 (V0 m) [hostOps1] c main_v0 : FVec Ideal S64x8192x64 .f32)
      = Cert.ReferenceIdeal.Read.val_main_v77 (F := Ideal) (input m c) := by
  obtain ⟨hx, hs⟩ := Pre.separated (input m c) h
  funext i
  obtain ⟨b, t, ch, rfl⟩ : ∃ (b : Fin 64) (t : Fin 8192) (ch : Fin 64), i = ValueIdx.ix3 b t ch := ⟨i 0, i 1, i 2, ValueIdx.eq_ix3 i⟩
  have ht : t.val = 128 * (t.val / 128) + t.val % 128 := by omega
  refine (Run.suffix_apply m c hx b ⟨t.val / 128, by omega⟩ ⟨t.val % 128, by omega⟩ ch t ht).trans ?_
  rw [Equation.filtered_eq hx b ch (hs b ch) ⟨t.val % 128, by omega⟩ ⟨t.val / 128, by omega⟩ t.val ht]
  exact (RefValue.value hx b t ch).symm

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference returns to rest with its argument as it was. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the reals the kernel's result is the reference's. -/
theorem algebraic : algebraic_KernelIdeal_ReferenceIdeal_pre_separated (hKernelIdeal := Cert.KernelIdeal.Gen.facts)
    (hReferenceIdeal := Cert.ReferenceIdeal.Gen.facts) (hPre_separated := Cert.Pre_separated.Gen.facts) := by
  intro m g m' g' hp ha
  refine ⟨fun c => Cert.ReferenceIdeal.Read.val_main_v77 (F := Ideal) (Cert.Tables.input m c), ?_, ?_⟩
  · exact (θ_run Cert.KernelIdeal.defs _ _).mono (fun _ h c => ⟨(h c).1.trans (Cert.Final.results_eq m c (hp c)), (h c).2⟩) (Cert.Run.run m g)
  · refine (θ_run Cert.ReferenceIdeal.defs _ _).mono (fun _ h c => ⟨(h c).1.trans ?_, (h c).2⟩) (Cert.ReferenceIdeal.Value.run (F := Ideal) m' g')
    rw [Cert.ReferenceIdeal.Read.val_main_v77_eq, ha c]

/-- Everything claimed. -/
theorem claim : Cert.Claim := ⟨Cert.Kernel.Gen.facts, Cert.KernelIdeal.Gen.facts, Cert.ReferenceIdeal.Gen.facts, Cert.Pre_separated.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  algebraic⟩

end Cert.Proof

end
